-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_norm [hPre_unit_norm : Cert.Pre_unit_norm.Facts] (m : (ℓ : Loc Cert.KernelIdeal.nD Cert.KernelIdeal.τ Cert.KernelIdeal.sig) → Buf (Elt Ideal) ℓ) : Prop :=
  ∀ c : Dev Cert.KernelIdeal.nD,
    (Cert.Pre_unit_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_norm [hPre_unit_norm : Cert.Pre_unit_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_unit_norm [hKernelIdeal : Cert.KernelIdeal.Facts] [hPre_unit_norm : Cert.Pre_unit_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_norm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_unit_norm [hReferenceIdeal : Cert.ReferenceIdeal.Facts] [hPre_unit_norm : Cert.Pre_unit_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv127" .f32 0x3C010204#32 ((127⁻¹ : ℝ) : EReal)

def algebraic_KernelIdeal_ReferenceIdeal_pre_unit_norm [hKernelIdeal : Cert.KernelIdeal.Facts] [hReferenceIdeal : Cert.ReferenceIdeal.Facts] [hPre_unit_norm : Cert.Pre_unit_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_unit_norm : Cert.Pre_unit_norm.Facts),
    quiescent_Kernel (hKernel := hKernel)
    ∧ quiescent_KernelIdeal (hKernelIdeal := hKernelIdeal)
    ∧ quiescent_KernelIdeal_pre_unit_norm (hKernelIdeal := hKernelIdeal) (hPre_unit_norm := hPre_unit_norm)
    ∧ quiescent_ReferenceIdeal (hReferenceIdeal := hReferenceIdeal)
    ∧ quiescent_ReferenceIdeal_pre_unit_norm (hReferenceIdeal := hReferenceIdeal) (hPre_unit_norm := hPre_unit_norm)
    ∧ preserves_Kernel_KernelIdeal
    ∧ algebraic_KernelIdeal_ReferenceIdeal_pre_unit_norm (hKernelIdeal := hKernelIdeal) (hReferenceIdeal := hReferenceIdeal) (hPre_unit_norm := hPre_unit_norm)
-- ==== Pre_unit_norm.lean ====
abbrev S4x3x64 : Shape := ⟨3, ![4, 3, 64]⟩
abbrev S4x8192x1024 : Shape := ⟨3, ![4, 8192, 1024]⟩
abbrev S1024x1536 : Shape := ⟨2, ![1024, 1536]⟩
abbrev S1024x1024 : Shape := ⟨2, ![1024, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S4x3x64 .f32) (main_arg1 : FVec F S4x3x64 .f32) (main_arg2 : FVec F S4x8192x1024 .f32) (main_arg3 : FVec F S1024x1536 .f32) (main_arg4 : FVec F S1024x1024 .f32) (main_arg5 : FVec F S1024x1024 .f32) (main_arg6 : FVec F S1024x1024 .f32) (main_arg7 : FVec F S1024 .f32) : IVec S_ 1 :=
  let main_cst : FVec F S_ .f32 := constant S_ .f32 0x3F800000#32
  let main_v0 : FVec F S1024 .f32 := broadcastInDim S1024 ![] bcast_S_S1024 main_cst
  let main_v1 : IVec S1024 1 := cmpf .oeq main_arg7 main_v0
  let main_c : IVec S_ 1 := constantI S_ 1 1#1
  let main_v2 : IVec S_ 1 := (fun x v => Host.reduce IntOp.andi x v reducesTo_S1024_S_d0 h_S_) main_v1 main_c
  main_v2
-- ==== Kernel.lean ====
abbrev S4x3x64 : Shape := ⟨3, ![4, 3, 64]⟩
abbrev S4x8192x1024 : Shape := ⟨3, ![4, 8192, 1024]⟩
abbrev S1024x1536 : Shape := ⟨2, ![1024, 1536]⟩
abbrev S1024x1024 : Shape := ⟨2, ![1024, 1024]⟩
abbrev S1024 : Shape := ⟨1, ![1024]⟩
abbrev S4x3x64x1 : Shape := ⟨4, ![4, 3, 64, 1]⟩
abbrev S4x3x64x2 : Shape := ⟨4, ![4, 3, 64, 2]⟩
abbrev S1x1536 : Shape := ⟨2, ![1, 1536]⟩
abbrev S1x1024 : Shape := ⟨2, ![1, 1024]⟩
abbrev S128x1024 : Shape := ⟨2, ![128, 1024]⟩
abbrev S2x128 : Shape := ⟨2, ![2, 128]⟩
abbrev S1 : Shape := ⟨1, ![1]⟩
abbrev S1x1 : Shape := ⟨2, ![1, 1]⟩
abbrev S1x1024x1536 : Shape := ⟨3, ![1, 1024, 1536]⟩
abbrev S1x1x1 : Shape := ⟨3, ![1, 1, 1]⟩
abbrev S1x1024x1024 : Shape := ⟨3, ![1, 1024, 1024]⟩
abbrev S2 : Shape := ⟨1, ![2]⟩
abbrev S2x1 : Shape := ⟨2, ![2, 1]⟩
abbrev S8192x1024 : Shape := ⟨2, ![8192, 1024]⟩
abbrev S8192x1152 : Shape := ⟨2, ![8192, 1152]⟩
abbrev S8192x1 : Shape := ⟨2, ![8192, 1]⟩
abbrev S1024x1 : Shape := ⟨2, ![1024, 1]⟩
abbrev S1024x128 : Shape := ⟨2, ![1024, 128]⟩
abbrev S1x1152 : Shape := ⟨2, ![1, 1152]⟩

abbrev nBuf : Space → Nat
  | .hbm => 18
  | .vmem => 22
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x8192x1024, .f32⟩
  | .hbm, ⟨3, _⟩ => ⟨S1024x1536, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4x3x64x1, .f32⟩
  | .hbm, ⟨9, _⟩ => ⟨S4x3x64x1, .f32⟩
  | .hbm, ⟨10, _⟩ => ⟨S4x3x64x2, .f32⟩
  | .hbm, ⟨11, _⟩ => ⟨S1x1536, .f32⟩
  | .hbm, ⟨12, _⟩ => ⟨S1x1024, .f32⟩
  | .hbm, ⟨13, _⟩ => ⟨S128x1024, .bf16⟩
  | .hbm, ⟨14, _⟩ => ⟨S1024x1024, .bf16⟩
  | .hbm, ⟨15, _⟩ => ⟨S1024x1024, .bf16⟩
  | .hbm, ⟨16, _⟩ => ⟨S2x128, .f32⟩
  | .hbm, ⟨17, _⟩ => ⟨S4x8192x1024, .f32⟩
  | .local _ .vmem, ⟨0, _⟩ => ⟨S1x1536, .f32⟩
  | .local _ .vmem, ⟨1, _⟩ => ⟨S1024x1536, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S128x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2x128, .f32⟩
  | .local _ .vmem, ⟨9, _⟩ => ⟨S128x1024, .bf16⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S2x128, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S8192x1024, .bf16⟩
  | .local _ .vmem, ⟨19, _⟩ => ⟨S8192x1152, .bf16⟩
  | .local _ .vmem, ⟨20, _⟩ => ⟨S8192x1, .f32⟩
  | .local _ .vmem, ⟨21, _⟩ => ⟨S1x1024, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := .none

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨3, ![4, 2, 8], ![false, false, false]⟩

def k1_mult1 (i : grid1.Coords) : BitVec 32 :=
  let arg2 : BitVec 32 := BitVec.ofNat 32 (i 2).val
  let c1024_i32 : BitVec 32 := 1024#32
  let v0 : BitVec 32 := Scalar.muli arg2 c1024_i32
  v0
def k1_cond1 (i : grid1.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k1_off1 (i : grid1.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v16 : Index := Scalar.indexCast v1
  let c0_7 : Index := 0#32
  ![v16.toNat, 0]
def k1_off2 (i : grid1.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v41 : Index := Scalar.indexCast v1
  let c0_13 : Index := 0#32
  ![v41.toNat, 0]
def k1_off3 (i : grid1.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v52 : Index := Scalar.indexCast v1
  let c1024 : Index := 1024#32
  ![v52.toNat, 1024]
def k1_off4 (i : grid1.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v63 : Index := Scalar.indexCast v1
  let c0_19 : Index := 0#32
  ![v63.toNat, 0]
def k1_cond3 (i : grid1.Coords) : BitVec 1 :=
  let arg1 : BitVec 32 := BitVec.ofNat 32 (i 1).val
  let c1_i32_3 : BitVec 32 := 1#32
  let v10 : BitVec 1 := Scalar.cmpi .eq arg1 c1_i32_3
  let v11 : BitVec 32 := Scalar.extui v10
  let c0_i32_4 : BitVec 32 := 0#32
  let v12 : BitVec 1 := Scalar.cmpi .ne v11 c0_i32_4
  v12

def k1_off5 (i : grid1.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v13 : Index := Scalar.indexCast v1
  let c0 : Index := 0#32
  ![v13.toNat, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![arg0.toNat, v1.toNat, c0_i32_1.toNat]

abbrev stage1_0 : Fin 1 → Memref sig .tc .vmem S128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "inv127" => some ((127⁻¹ : ℝ) : EReal)
  | _ => none
-- ==== ReferenceIdeal.lean ====
abbrev S4x3x64 : Shape := ⟨3, ![4, 3, 64]⟩
abbrev S4x8192x1024 : Shape := ⟨3, ![4, 8192, 1024]⟩
abbrev S1024x1536 : Shape := ⟨2, ![1024, 1536]⟩
abbrev S1024x1024 : Shape := ⟨2, ![1024, 1024]⟩
abbrev S1024 : Shape := ⟨1, ![1024]⟩
abbrev S4x3x64x1 : Shape := ⟨4, ![4, 3, 64, 1]⟩
abbrev S4x3x64x2 : Shape := ⟨4, ![4, 3, 64, 2]⟩
abbrev S1536 : Shape := ⟨1, ![1536]⟩
abbrev S_ : Shape := ⟨0, ![]⟩
abbrev S1 : Shape := ⟨1, ![1]⟩
abbrev S1536x1024 : Shape := ⟨2, ![1536, 1024]⟩
abbrev S512 : Shape := ⟨1, ![512]⟩
abbrev S4x8192 : Shape := ⟨2, ![4, 8192]⟩
abbrev S4x8192x1 : Shape := ⟨3, ![4, 8192, 1]⟩
abbrev S1x1x1024 : Shape := ⟨3, ![1, 1, 1024]⟩
abbrev S4x8192x512 : Shape := ⟨3, ![4, 8192, 512]⟩
abbrev S4 : Shape := ⟨1, ![4]⟩
abbrev S4x1 : Shape := ⟨2, ![4, 1]⟩
abbrev S4x1024 : Shape := ⟨2, ![4, 1024]⟩
abbrev S4x1x1024 : Shape := ⟨3, ![4, 1, 1024]⟩

abbrev nBuf : Space → Nat
  | .hbm => 252
  | .vmem => 0
  | .smem => 0
  | _ => 0

abbrev hbmTy0_0 (i : Nat) : BufTy := match i % 128 with
  | 0 => ⟨S4x3x64, .f32⟩
  | 1 => ⟨S4x3x64, .f32⟩
  | 2 => ⟨S4x8192x1024, .f32⟩
  | 3 => ⟨S1024x1536, .f32⟩
  | 4 => ⟨S1024x1024, .f32⟩
  | 5 => ⟨S1024x1024, .f32⟩
  | 6 => ⟨S1024x1024, .f32⟩
  | 7 => ⟨S1024, .f32⟩
  | 8 => ⟨S4x3x64x1, .f32⟩
  | 9 => ⟨S4x3x64x1, .f32⟩
  | 10 => ⟨S4x3x64x2, .f32⟩
  | 11 => ⟨S1536, .f32⟩
  | 12 => ⟨S1536, .f32⟩
  | 13 => ⟨S_, .f32⟩
  | 14 => ⟨S_, .f32⟩
  | 15 => ⟨S1, .f32⟩
  | 16 => ⟨S_, .f32⟩
  | 17 => ⟨S_, .f32⟩
  | 18 => ⟨S1, .f32⟩
  | 19 => ⟨S1, .f32⟩
  | 20 => ⟨S_, .f32⟩
  | 21 => ⟨S1, .f32⟩
  | 22 => ⟨S1, .f32⟩
  | 23 => ⟨S1536, .f32⟩
  | 24 => ⟨S1536, .f32⟩
  | 25 => ⟨S1536, .f32⟩
  | 26 => ⟨S_, .f32⟩
  | 27 => ⟨S_, .f32⟩
  | 28 => ⟨S_, .f32⟩
  | 29 => ⟨S1536, .f32⟩
  | 30 => ⟨S1536, .f32⟩
  | 31 => ⟨S_, .f32⟩
  | 32 => ⟨S1536, .f32⟩
  | 33 => ⟨S1536, .f32⟩
  | 34 => ⟨S_, .f32⟩
  | 35 => ⟨S1, .f32⟩
  | 36 => ⟨S1, .f32⟩
  | 37 => ⟨S1536, .f32⟩
  | 38 => ⟨S1536, .f32⟩
  | 39 => ⟨S1024x1536, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S1024x1536, .f32⟩
  | 47 => ⟨S1024x1536, .f32⟩
  | 48 => ⟨S1024x1536, .f32⟩
  | 49 => ⟨S_, .f32⟩
  | 50 => ⟨S_, .f32⟩
  | 51 => ⟨S_, .f32⟩
  | 52 => ⟨S1024x1536, .f32⟩
  | 53 => ⟨S1024x1536, .f32⟩
  | 54 => ⟨S_, .f32⟩
  | 55 => ⟨S1024x1536, .f32⟩
  | 56 => ⟨S1024x1536, .f32⟩
  | 57 => ⟨S1024x1536, .f32⟩
  | 58 => ⟨S1024x1536, .f32⟩
  | 59 => ⟨S1536x1024, .f32⟩
  | 60 => ⟨S1024, .f32⟩
  | 61 => ⟨S512, .f32⟩
  | 62 => ⟨S512, .f32⟩
  | 63 => ⟨S4x8192x1024, .f32⟩
  | 64 => ⟨S_, .f32⟩
  | 65 => ⟨S4x8192, .f32⟩
  | 66 => ⟨S4x8192x1, .f32⟩
  | 67 => ⟨S_, .f32⟩
  | 68 => ⟨S4x8192x1, .f32⟩
  | 69 => ⟨S4x8192x1, .f32⟩
  | 70 => ⟨S_, .f32⟩
  | 71 => ⟨S4x8192x1, .f32⟩
  | 72 => ⟨S4x8192x1, .f32⟩
  | 73 => ⟨S4x8192x1, .f32⟩
  | 74 => ⟨S4x8192x1024, .f32⟩
  | 75 => ⟨S4x8192x1024, .f32⟩
  | 76 => ⟨S1x1x1024, .f32⟩
  | 77 => ⟨S4x8192x1024, .f32⟩
  | 78 => ⟨S4x8192x1024, .f32⟩
  | 79 => ⟨S4x8192x1024, .f32⟩
  | 80 => ⟨S_, .f32⟩
  | 81 => ⟨S4x8192, .f32⟩
  | 82 => ⟨S4x8192x1, .f32⟩
  | 83 => ⟨S_, .f32⟩
  | 84 => ⟨S_, .f32⟩
  | 85 => ⟨S4x8192x1, .f32⟩
  | 86 => ⟨S4x8192x1, .f32⟩
  | 87 => ⟨S_, .f32⟩
  | 88 => ⟨S4x8192x1, .f32⟩
  | 89 => ⟨S4x8192x1, .f32⟩
  | 90 => ⟨S4x8192x1024, .f32⟩
  | 91 => ⟨S4x8192x1024, .f32⟩
  | 92 => ⟨S4x8192x1024, .f32⟩
  | 93 => ⟨S_, .f32⟩
  | 94 => ⟨S_, .f32⟩
  | 95 => ⟨S_, .f32⟩
  | 96 => ⟨S4x8192x1024, .f32⟩
  | 97 => ⟨S4x8192x1024, .f32⟩
  | 98 => ⟨S_, .f32⟩
  | 99 => ⟨S4x8192x1024, .f32⟩
  | 100 => ⟨S4x8192x1024, .f32⟩
  | 101 => ⟨S_, .f32⟩
  | 102 => ⟨S4x8192x1, .f32⟩
  | 103 => ⟨S4x8192x1, .f32⟩
  | 104 => ⟨S4x8192x1024, .f32⟩
  | 105 => ⟨S4x8192x1024, .f32⟩
  | 106 => ⟨S1024x1024, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S1024x1024, .f32⟩
  | 114 => ⟨S1024x1024, .f32⟩
  | 115 => ⟨S1024x1024, .f32⟩
  | 116 => ⟨S_, .f32⟩
  | 117 => ⟨S_, .f32⟩
  | 118 => ⟨S_, .f32⟩
  | 119 => ⟨S1024x1024, .f32⟩
  | 120 => ⟨S1024x1024, .f32⟩
  | 121 => ⟨S_, .f32⟩
  | 122 => ⟨S1024x1024, .f32⟩
  | 123 => ⟨S1024x1024, .f32⟩
  | 124 => ⟨S1024x1024, .f32⟩
  | 125 => ⟨S1024x1024, .f32⟩
  | 126 => ⟨S1024x1024, .f32⟩
  | 127 => ⟨S4x8192x1024, .f32⟩
  | _ => ⟨S4x3x64, .f32⟩

abbrev hbmTy0_1 (i : Nat) : BufTy := match i % 128 with
  | 0 => ⟨S4x8192x1024, .f32⟩
  | 1 => ⟨S_, .f32⟩
  | 2 => ⟨S4x8192, .f32⟩
  | 3 => ⟨S4x8192x1, .f32⟩
  | 4 => ⟨S_, .f32⟩
  | 5 => ⟨S_, .f32⟩
  | 6 => ⟨S4x8192x1, .f32⟩
  | 7 => ⟨S4x8192x1, .f32⟩
  | 8 => ⟨S_, .f32⟩
  | 9 => ⟨S4x8192x1, .f32⟩
  | 10 => ⟨S4x8192x1, .f32⟩
  | 11 => ⟨S4x8192x1024, .f32⟩
  | 12 => ⟨S4x8192x1024, .f32⟩
  | 13 => ⟨S4x8192x1024, .f32⟩
  | 14 => ⟨S_, .f32⟩
  | 15 => ⟨S_, .f32⟩
  | 16 => ⟨S_, .f32⟩
  | 17 => ⟨S4x8192x1024, .f32⟩
  | 18 => ⟨S4x8192x1024, .f32⟩
  | 19 => ⟨S_, .f32⟩
  | 20 => ⟨S4x8192x1024, .f32⟩
  | 21 => ⟨S4x8192x1024, .f32⟩
  | 22 => ⟨S_, .f32⟩
  | 23 => ⟨S4x8192x1, .f32⟩
  | 24 => ⟨S4x8192x1, .f32⟩
  | 25 => ⟨S4x8192x1024, .f32⟩
  | 26 => ⟨S4x8192x1024, .f32⟩
  | 27 => ⟨S1024x1024, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S1024x1024, .f32⟩
  | 35 => ⟨S1024x1024, .f32⟩
  | 36 => ⟨S1024x1024, .f32⟩
  | 37 => ⟨S_, .f32⟩
  | 38 => ⟨S_, .f32⟩
  | 39 => ⟨S_, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S1024x1024, .f32⟩
  | 47 => ⟨S1024x1024, .f32⟩
  | 48 => ⟨S4x8192x1024, .f32⟩
  | 49 => ⟨S4x8192x512, .f32⟩
  | 50 => ⟨S4x8192x512, .f32⟩
  | 51 => ⟨S4x8192, .f32⟩
  | 52 => ⟨S4x8192, .f32⟩
  | 53 => ⟨S4x8192, .f32⟩
  | 54 => ⟨S_, .f32⟩
  | 55 => ⟨S4x8192, .f32⟩
  | 56 => ⟨S4x8192, .f32⟩
  | 57 => ⟨S_, .f32⟩
  | 58 => ⟨S4, .f32⟩
  | 59 => ⟨S_, .f32⟩
  | 60 => ⟨S4, .f32⟩
  | 61 => ⟨S4, .f32⟩
  | 62 => ⟨S4x1, .f32⟩
  | 63 => ⟨S4x8192, .f32⟩
  | 64 => ⟨S4x8192, .f32⟩
  | 65 => ⟨S4x8192, .f32⟩
  | 66 => ⟨S_, .f32⟩
  | 67 => ⟨S4, .f32⟩
  | 68 => ⟨S4x1, .f32⟩
  | 69 => ⟨S4x8192, .f32⟩
  | 70 => ⟨S4x8192, .f32⟩
  | 71 => ⟨S4x1024, .f32⟩
  | 72 => ⟨S4x1024, .f32⟩
  | 73 => ⟨S_, .f32⟩
  | 74 => ⟨S4, .f32⟩
  | 75 => ⟨S4x1, .f32⟩
  | 76 => ⟨S_, .f32⟩
  | 77 => ⟨S_, .f32⟩
  | 78 => ⟨S4x1, .f32⟩
  | 79 => ⟨S4x1, .f32⟩
  | 80 => ⟨S_, .f32⟩
  | 81 => ⟨S4x1, .f32⟩
  | 82 => ⟨S4x1, .f32⟩
  | 83 => ⟨S4x1024, .f32⟩
  | 84 => ⟨S4x1024, .f32⟩
  | 85 => ⟨S4x1024, .f32⟩
  | 86 => ⟨S_, .f32⟩
  | 87 => ⟨S_, .f32⟩
  | 88 => ⟨S_, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S_, .f32⟩
  | 95 => ⟨S4x1, .f32⟩
  | 96 => ⟨S4x1, .f32⟩
  | 97 => ⟨S4x1024, .f32⟩
  | 98 => ⟨S4x1024, .f32⟩
  | 99 => ⟨S1024x1024, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S1024x1024, .f32⟩
  | 107 => ⟨S1024x1024, .f32⟩
  | 108 => ⟨S1024x1024, .f32⟩
  | 109 => ⟨S_, .f32⟩
  | 110 => ⟨S_, .f32⟩
  | 111 => ⟨S_, .f32⟩
  | 112 => ⟨S1024x1024, .f32⟩
  | 113 => ⟨S1024x1024, .f32⟩
  | 114 => ⟨S_, .f32⟩
  | 115 => ⟨S1024x1024, .f32⟩
  | 116 => ⟨S1024x1024, .f32⟩
  | 117 => ⟨S1024x1024, .f32⟩
  | 118 => ⟨S1024x1024, .f32⟩
  | 119 => ⟨S1024x1024, .f32⟩
  | 120 => ⟨S4x1024, .f32⟩
  | 121 => ⟨S4x1x1024, .f32⟩
  | 122 => ⟨S4x8192x1024, .f32⟩
  | 123 => ⟨S4x8192x1024, .f32⟩
  | _ => ⟨S4x3x64, .f32⟩

abbrev hbmTy (i : Nat) : BufTy := match i / 128 with
  | 0 => hbmTy0_0 i
  | 1 => hbmTy0_1 i
  | _ => ⟨S4x3x64, .f32⟩

abbrev bufTy : (tb : Table) → Fin (tcTables nBuf tb) → BufTy
  | .hbm, ⟨i, _⟩ => hbmTy i
  | _, _ => ⟨S4x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_cst_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_cst_9 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_v33 : Ref sig .tc := ⟨.hbm, 65, rfl⟩
abbrev main_v34 : Ref sig .tc := ⟨.hbm, 66, rfl⟩
abbrev main_cst_11 : Ref sig .tc := ⟨.hbm, 67, rfl⟩
abbrev main_v35 : Ref sig .tc := ⟨.hbm, 68, rfl⟩
abbrev main_v36 : Ref sig .tc := ⟨.hbm, 69, rfl⟩
abbrev main_cst_12 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_13 : Ref sig .tc := ⟨.hbm, 80, rfl⟩
abbrev main_v46 : Ref sig .tc := ⟨.hbm, 81, rfl⟩
abbrev main_v47 : Ref sig .tc := ⟨.hbm, 82, rfl⟩
abbrev main_cst_14 : Ref sig .tc := ⟨.hbm, 83, rfl⟩
abbrev main_call5_v0 : Ref sig .tc := ⟨.hbm, 84, rfl⟩
abbrev main_call5_v1 : Ref sig .tc := ⟨.hbm, 85, rfl⟩
abbrev main_v48 : Ref sig .tc := ⟨.hbm, 86, rfl⟩
abbrev main_cst_15 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_16 : Ref sig .tc := ⟨.hbm, 93, rfl⟩
abbrev main_cst_17 : Ref sig .tc := ⟨.hbm, 94, rfl⟩
abbrev main_call7_v0 : Ref sig .tc := ⟨.hbm, 95, rfl⟩
abbrev main_call7_v1 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_v54 : Ref sig .tc := ⟨.hbm, 100, rfl⟩
abbrev main_cst_18 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_19 : Ref sig .tc := ⟨.hbm, 107, rfl⟩
abbrev main_v60 : Ref sig .tc := ⟨.hbm, 108, rfl⟩
abbrev main_cst_20 : Ref sig .tc := ⟨.hbm, 109, rfl⟩
abbrev main_v61 : Ref sig .tc := ⟨.hbm, 110, rfl⟩
abbrev main_cst_21 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_22 : Ref sig .tc := ⟨.hbm, 116, rfl⟩
abbrev main_cst_23 : Ref sig .tc := ⟨.hbm, 117, rfl⟩
abbrev main_call9_v0 : Ref sig .tc := ⟨.hbm, 118, rfl⟩
abbrev main_call9_v1 : Ref sig .tc := ⟨.hbm, 119, rfl⟩
abbrev main_call9_v2 : Ref sig .tc := ⟨.hbm, 120, rfl⟩
abbrev main_call9_v3 : Ref sig .tc := ⟨.hbm, 121, rfl⟩
abbrev main_call9_v4 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_24 : Ref sig .tc := ⟨.hbm, 129, rfl⟩
abbrev main_v72 : Ref sig .tc := ⟨.hbm, 130, rfl⟩
abbrev main_v73 : Ref sig .tc := ⟨.hbm, 131, rfl⟩
abbrev main_cst_25 : Ref sig .tc := ⟨.hbm, 132, rfl⟩
abbrev main_call10_v0 : Ref sig .tc := ⟨.hbm, 133, rfl⟩
abbrev main_call10_v1 : Ref sig .tc := ⟨.hbm, 134, rfl⟩
abbrev main_v74 : Ref sig .tc := ⟨.hbm, 135, rfl⟩
abbrev main_cst_26 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_27 : Ref sig .tc := ⟨.hbm, 142, rfl⟩
abbrev main_cst_28 : Ref sig .tc := ⟨.hbm, 143, rfl⟩
abbrev main_call12_v0 : Ref sig .tc := ⟨.hbm, 144, rfl⟩
abbrev main_call12_v1 : Ref sig .tc := ⟨.hbm, 145, rfl⟩
abbrev main_call12_v2 : Ref sig .tc := ⟨.hbm, 146, rfl⟩
abbrev main_call12_v3 : Ref sig .tc := ⟨.hbm, 147, rfl⟩
abbrev main_call12_v4 : Ref sig .tc := ⟨.hbm, 148, rfl⟩
abbrev main_v80 : Ref sig .tc := ⟨.hbm, 149, rfl⟩
abbrev main_cst_29 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_30 : Ref sig .tc := ⟨.hbm, 156, rfl⟩
abbrev main_v86 : Ref sig .tc := ⟨.hbm, 157, rfl⟩
abbrev main_cst_31 : Ref sig .tc := ⟨.hbm, 158, rfl⟩
abbrev main_v87 : Ref sig .tc := ⟨.hbm, 159, rfl⟩
abbrev main_cst_32 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_33 : Ref sig .tc := ⟨.hbm, 165, rfl⟩
abbrev main_cst_34 : Ref sig .tc := ⟨.hbm, 166, rfl⟩
abbrev main_call14_v0 : Ref sig .tc := ⟨.hbm, 167, rfl⟩
abbrev main_call14_v1 : Ref sig .tc := ⟨.hbm, 168, rfl⟩
abbrev main_call14_v2 : Ref sig .tc := ⟨.hbm, 169, rfl⟩
abbrev main_call14_v3 : Ref sig .tc := ⟨.hbm, 170, rfl⟩
abbrev main_call14_v4 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_cst_35 : Ref sig .tc := ⟨.hbm, 182, rfl⟩
abbrev main_v102 : Ref sig .tc := ⟨.hbm, 183, rfl⟩
abbrev main_v103 : Ref sig .tc := ⟨.hbm, 184, rfl⟩
abbrev main_cst_36 : Ref sig .tc := ⟨.hbm, 185, rfl⟩
abbrev main_v104 : Ref sig .tc := ⟨.hbm, 186, rfl⟩
abbrev main_cst_37 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_cst_38 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_cst_39 : Ref sig .tc := ⟨.hbm, 201, rfl⟩
abbrev main_v117 : Ref sig .tc := ⟨.hbm, 202, rfl⟩
abbrev main_v118 : Ref sig .tc := ⟨.hbm, 203, rfl⟩
abbrev main_cst_40 : Ref sig .tc := ⟨.hbm, 204, rfl⟩
abbrev main_call15_v0 : Ref sig .tc := ⟨.hbm, 205, rfl⟩
abbrev main_call15_v1 : Ref sig .tc := ⟨.hbm, 206, rfl⟩
abbrev main_v119 : Ref sig .tc := ⟨.hbm, 207, rfl⟩
abbrev main_cst_41 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_cst_42 : Ref sig .tc := ⟨.hbm, 214, rfl⟩
abbrev main_cst_43 : Ref sig .tc := ⟨.hbm, 215, rfl⟩
abbrev main_call17_v0 : Ref sig .tc := ⟨.hbm, 216, rfl⟩
abbrev main_call17_v1 : Ref sig .tc := ⟨.hbm, 217, rfl⟩
abbrev main_call17_v2 : Ref sig .tc := ⟨.hbm, 218, rfl⟩
abbrev main_call17_v3 : Ref sig .tc := ⟨.hbm, 219, rfl⟩
abbrev main_call17_v4 : Ref sig .tc := ⟨.hbm, 220, rfl⟩
abbrev main_v125 : Ref sig .tc := ⟨.hbm, 221, rfl⟩
abbrev main_cst_44 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_45 : Ref sig .tc := ⟨.hbm, 228, rfl⟩
abbrev main_v131 : Ref sig .tc := ⟨.hbm, 229, rfl⟩
abbrev main_cst_46 : Ref sig .tc := ⟨.hbm, 230, rfl⟩
abbrev main_v132 : Ref sig .tc := ⟨.hbm, 231, rfl⟩
abbrev main_cst_47 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_cst_48 : Ref sig .tc := ⟨.hbm, 237, rfl⟩
abbrev main_cst_49 : Ref sig .tc := ⟨.hbm, 238, rfl⟩
abbrev main_call19_v0 : Ref sig .tc := ⟨.hbm, 239, rfl⟩
abbrev main_call19_v1 : Ref sig .tc := ⟨.hbm, 240, rfl⟩
abbrev main_call19_v2 : Ref sig .tc := ⟨.hbm, 241, rfl⟩
abbrev main_call19_v3 : Ref sig .tc := ⟨.hbm, 242, rfl⟩
abbrev main_call19_v4 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩

abbrev nD : Nat := 1
abbrev τ : Topo := Topo.v7x

variable {F : FTy → Type} [FloatOps F]
-- ==== Proof.PrepRun.lean ====
/-
  The first call's body run: from the nine buffers held whole it ends with the five inputs as they were and the four
  outputs at functions of the inputs alone.
-/
module

public import proofs.«01_k».proof.Proof.Gen.KernelIdeal.Launch
public import proofs.«01_k».proof.Proof.Gen.KernelIdeal.Skeleton
public import Idealize.ShloMosaic.Lib.Tactic

@[expose] public section

set_option maxRecDepth 16384

noncomputable section

namespace Cert.KernelIdeal.Prep

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Contents of a memref's buffer on core `c`. -/
abbrev Bf (c : Dev nD) {sp : Space} {S : Shape} {e : EltTy} (M : Memref sig .tc sp S e) : Type :=
  Buf (Elt F) (M.view.loc (c : Thread nD τ))
/-- A memref's buffer held whole at the given contents. -/
abbrev pt (c : Dev nD) {sp : Space} {S : Shape} {e : EltTy} (M : Memref sig .tc sp S e) (f : Bf (F := F) c M) : sProp 𝕄 :=
  M.view.loc (c : Thread nD τ) ↦{fullShare} f

/-- What the four outputs' buffers hold after the body, with the run that leaves them so. -/
noncomputable def prepRun (c : Dev nD)
    (M0 : Memref sig .tc .vmem S1x1536 .f32) (h0 : M0.IsWhole) (M1 : Memref sig .tc .vmem S1024x1536 .f32) (h1 : M1.IsWhole)
    (M2 : Memref sig .tc .vmem S1024x1024 .f32) (h2 : M2.IsWhole) (M3 : Memref sig .tc .vmem S1024x1024 .f32) (h3 : M3.IsWhole)
    (M4 : Memref sig .tc .vmem S1024x1024 .f32) (h4 : M4.IsWhole) (M5 : Memref sig .tc .vmem S128x1024 .bf16) (h5 : M5.IsWhole)
    (M6 : Memref sig .tc .vmem S1024x1024 .bf16) (h6 : M6.IsWhole) (M7 : Memref sig .tc .vmem S1024x1024 .bf16) (h7 : M7.IsWhole)
    (M8 : Memref sig .tc .vmem S2x128 .f32) (h8 : M8.IsWhole)
    (f0 : Bf (F := F) c M0) (f1 : Bf (F := F) c M1) (f2 : Bf (F := F) c M2) (f3 : Bf (F := F) c M3) (f4 : Bf (F := F) c M4) :
    { W : Bf (F := F) c M5 × Bf (F := F) c M6 × Bf (F := F) c M7 × Bf (F := F) c M8 //
      ∀ (f5 : Bf (F := F) c M5) (f6 : Bf (F := F) c M6) (f7 : Bf (F := F) c M7) (f8 : Bf (F := F) c M8) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8
            ∗ (iprop(pt c M0 f0 ∗ pt c M1 f1 ∗ pt c M2 f2 ∗ pt c M3 f3 ∗ pt c M4 f4 ∗ pt c M5 W.1 ∗ pt c M6 W.2.1 ∗ pt c M7 W.2.2.1 ∗ pt c M8 W.2.2.2) -∗ Q ⟨⟩))
          ⊢ wp frame (wpE (defs₀ (F := F)) Variants.none c none) E (cc0__prep_body M0 h0 M1 h1 M2 h2 M3 h3 M4 h4 M5 h5 M6 h6 M7 h7 M8 h8) Q } := by
  refine ⟨(?_, ?_, ?_, ?_), fun f5 f6 f7 f8 E Q => ?run⟩
  case run =>
    rw [cc0__prep_body_eq_skeleton]
    unfold cc0__prep_body_skel
    rw [k0_part1_eq_skeleton, k0_part2_eq_skeleton]
    unfold k0_part1_skel k0_part2_skel
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Prep

end
-- ==== Proof.MegaRun.lean ====
/-
  The second call's body run at each of its three kinds of grid point: what every buffer it stores into holds after.
-/
module

public import proofs.«01_k».proof.Proof.Gen.KernelIdeal.Launch
public import proofs.«01_k».proof.Proof.Gen.KernelIdeal.Skeleton
public import Idealize.ShloMosaic.Lib.Tactic
public import proofs.«01_k».proof.Proof.PrepRun

@[expose] public section

set_option maxRecDepth 16384

noncomputable section

namespace Cert.KernelIdeal.Mega

open Cert.KernelIdeal Cert.KernelIdeal.Gen Cert.KernelIdeal.Prep

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition of the body's second branch: second pass, first block. -/
abbrev cond2 (i : grid1.Coords) : BitVec 1 :=
  Scalar.cmpi .ne (Scalar.extui (Scalar.andi (Scalar.cmpi .eq (BitVec.ofNat 32 (i 1).val) 1#32) (Scalar.cmpi .eq (BitVec.ofNat 32 (i 2).val) 0#32)) : BitVec 32) 0#32

/-- The collecting pass: the block's rows are stored into the three row buffers. -/
noncomputable def poolRun (c : Dev nD) (i : grid1.Coords) (hc1 : k1_cond1 i = 1#1) (hc2 : ¬ cond2 i = 1#1) (hc3 : ¬ k1_cond3 i = 1#1)
    (M3 : Memref sig .tc .vmem S128x1024 .bf16) (h3 : M3.IsWhole)
    (M4 : Memref sig .tc .vmem S1x1024 .f32) (h4 : M4.IsWhole)
    (M5 : Memref sig .tc .vmem S1024x1024 .bf16) (h5 : M5.IsWhole)
    (M6 : Memref sig .tc .vmem S1024x1024 .bf16) (h6 : M6.IsWhole)
    (M7 : Memref sig .tc .vmem S2x128 .f32) (h7 : M7.IsWhole)
    (M8 : Memref sig .tc .vmem S1x1024x1024 .f32) (h8 : M8.IsWhole)
    (M9 : Memref sig .tc .vmem S1x1024x1024 .f32) (h9 : M9.IsWhole)
    (M10 : Memref sig .tc .vmem S8192x1024 .bf16) (h10 : M10.IsWhole)
    (M11 : Memref sig .tc .vmem S8192x1152 .bf16) (h11 : M11.IsWhole)
    (M12 : Memref sig .tc .vmem S8192x1 .f32) (h12 : M12.IsWhole)
    (M13 : Memref sig .tc .vmem S1x1024 .f32) (h13 : M13.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) :
    { W : Bf (F := F) c M10 × Bf (F := F) c M11 × Bf (F := F) c M12 //
      ∀  (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
            ∗ (iprop(pt c M3 f3 ∗ pt c M4 f4 ∗ pt c M5 f5 ∗ pt c M6 f6 ∗ pt c M7 f7 ∗ pt c M8 f8 ∗ pt c M9 f9 ∗ pt c M10 W.1 ∗ pt c M11 W.2.1 ∗ pt c M12 W.2.2 ∗ pt c M13 f13) -∗ Q ⟨⟩))
          ⊢ wp frame (wpE (defs₀ (F := F)) Variants.none c none) E (cc1__mega_body i M3 h3 M4 h4 M5 h5 M6 h6 M7 h7 M8 h8 M9 h9 M10 h10 M11 h11 M12 h12 M13 h13) Q } := by
  refine ⟨(?_, ?_, ?_), fun  E Q => ?run⟩
  case run =>
    rw [cc1__mega_body_eq_skeleton]
    unfold cc1__mega_body_skel
    have hc2' := hc2
    unfold cond2 at hc2'
    dsimp (config := { zeta := true, zetaHave := true }) only
    rw [dif_pos hc1]
    rw [dif_neg hc2']
    rw [dif_neg hc3]
    rw [k1_part1_eq_skeleton]
    unfold k1_part1_skel
    iintro ⟨H3, H4, H5, H6, H7, H8, H9, H10, H11, H12, H13, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The first point of the second pass: the correction row is computed from the whole row buffers and stored, and the block is written out. -/
noncomputable def finRun (c : Dev nD) (i : grid1.Coords) (hc1 : ¬ k1_cond1 i = 1#1) (hc2 : cond2 i = 1#1) (hc3 : k1_cond3 i = 1#1)
    (M3 : Memref sig .tc .vmem S128x1024 .bf16) (h3 : M3.IsWhole)
    (M4 : Memref sig .tc .vmem S1x1024 .f32) (h4 : M4.IsWhole)
    (M5 : Memref sig .tc .vmem S1024x1024 .bf16) (h5 : M5.IsWhole)
    (M6 : Memref sig .tc .vmem S1024x1024 .bf16) (h6 : M6.IsWhole)
    (M7 : Memref sig .tc .vmem S2x128 .f32) (h7 : M7.IsWhole)
    (M8 : Memref sig .tc .vmem S1x1024x1024 .f32) (h8 : M8.IsWhole)
    (M9 : Memref sig .tc .vmem S1x1024x1024 .f32) (h9 : M9.IsWhole)
    (M10 : Memref sig .tc .vmem S8192x1024 .bf16) (h10 : M10.IsWhole)
    (M11 : Memref sig .tc .vmem S8192x1152 .bf16) (h11 : M11.IsWhole)
    (M12 : Memref sig .tc .vmem S8192x1 .f32) (h12 : M12.IsWhole)
    (M13 : Memref sig .tc .vmem S1x1024 .f32) (h13 : M13.IsWhole)
    (f3 : Bf (F := F) c M3) (f4 : Bf (F := F) c M4) (f5 : Bf (F := F) c M5) (f6 : Bf (F := F) c M6) (f7 : Bf (F := F) c M7) (f8 : Bf (F := F) c M8) (f10 : Bf (F := F) c M10) (f11 : Bf (F := F) c M11) (f12 : Bf (F := F) c M12) :
    { W : Bf (F := F) c M9 × Bf (F := F) c M13 //
      ∀ (f9 : Bf (F := F) c M9) (f13 : Bf (F := F) c M13) (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
            ∗ (iprop(pt c M3 f3 ∗ pt c M4 f4 ∗ pt c M5 f5 ∗ pt c M6 f6 ∗ pt c M7 f7 ∗ pt c M8 f8 ∗ pt c M9 W.1 ∗ pt c M10 f10 ∗ pt c M11 f11 ∗ pt c M12 f12 ∗ pt c M13 W.2) -∗ Q ⟨⟩))
          ⊢ wp frame (wpE (defs₀ (F := F)) Variants.none c none) E (cc1__mega_body i M3 h3 M4 h4 M5 h5 M6 h6 M7 h7 M8 h8 M9 h9 M10 h10 M11 h11 M12 h12 M13 h13) Q } := by
  refine ⟨(?_, ?_), fun f9 f13 E Q => ?run⟩
  case run =>
    rw [cc1__mega_body_eq_skeleton]
    unfold cc1__mega_body_skel
    have hc2' := hc2
    unfold cond2 at hc2'
    dsimp (config := { zeta := true, zetaHave := true }) only
    rw [dif_neg hc1]
    rw [dif_pos hc2']
    rw [dif_pos hc3]
    rw [k1_part2_eq_skeleton]
    unfold k1_part2_skel
    iintro ⟨H3, H4, H5, H6, H7, H8, H9, H10, H11, H12, H13, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- A later point of the second pass: the block's rows plus the correction row are written out. -/
noncomputable def addRun (c : Dev nD) (i : grid1.Coords) (hc1 : ¬ k1_cond1 i = 1#1) (hc2 : ¬ cond2 i = 1#1) (hc3 : k1_cond3 i = 1#1)
    (M3 : Memref sig .tc .vmem S128x1024 .bf16) (h3 : M3.IsWhole)
    (M4 : Memref sig .tc .vmem S1x1024 .f32) (h4 : M4.IsWhole)
    (M5 : Memref sig .tc .vmem S1024x1024 .bf16) (h5 : M5.IsWhole)
    (M6 : Memref sig .tc .vmem S1024x1024 .bf16) (h6 : M6.IsWhole)
    (M7 : Memref sig .tc .vmem S2x128 .f32) (h7 : M7.IsWhole)
    (M8 : Memref sig .tc .vmem S1x1024x1024 .f32) (h8 : M8.IsWhole)
    (M9 : Memref sig .tc .vmem S1x1024x1024 .f32) (h9 : M9.IsWhole)
    (M10 : Memref sig .tc .vmem S8192x1024 .bf16) (h10 : M10.IsWhole)
    (M11 : Memref sig .tc .vmem S8192x1152 .bf16) (h11 : M11.IsWhole)
    (M12 : Memref sig .tc .vmem S8192x1 .f32) (h12 : M12.IsWhole)
    (M13 : Memref sig .tc .vmem S1x1024 .f32) (h13 : M13.IsWhole)
    (f3 : Bf (F := F) c M3) (f4 : Bf (F := F) c M4) (f5 : Bf (F := F) c M5) (f6 : Bf (F := F) c M6) (f7 : Bf (F := F) c M7) (f8 : Bf (F := F) c M8) (f10 : Bf (F := F) c M10) (f11 : Bf (F := F) c M11) (f12 : Bf (F := F) c M12) (f13 : Bf (F := F) c M13) :
    { W : Bf (F := F) c M9 //
      ∀ (f9 : Bf (F := F) c M9) (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
            ∗ (iprop(pt c M3 f3 ∗ pt c M4 f4 ∗ pt c M5 f5 ∗ pt c M6 f6 ∗ pt c M7 f7 ∗ pt c M8 f8 ∗ pt c M9 W ∗ pt c M10 f10 ∗ pt c M11 f11 ∗ pt c M12 f12 ∗ pt c M13 f13) -∗ Q ⟨⟩))
          ⊢ wp frame (wpE (defs₀ (F := F)) Variants.none c none) E (cc1__mega_body i M3 h3 M4 h4 M5 h5 M6 h6 M7 h7 M8 h8 M9 h9 M10 h10 M11 h11 M12 h12 M13 h13) Q } := by
  refine ⟨?_, fun f9 E Q => ?run⟩
  case run =>
    rw [cc1__mega_body_eq_skeleton]
    unfold cc1__mega_body_skel
    have hc2' := hc2
    unfold cond2 at hc2'
    dsimp (config := { zeta := true, zetaHave := true }) only
    rw [dif_neg hc1]
    rw [dif_neg hc2']
    rw [dif_pos hc3]
    iintro ⟨H3, H4, H5, H6, H7, H8, H9, H10, H11, H12, H13, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.KernelIdeal.Mega

end
-- ==== Proof.MegaData.lean ====
/-
  The second call's values: what each row buffer holds after the collecting pass over a batch entry, the correction
  row, and the block written out — as functions of the arrays alone —, and the statement `Good` of how far the row
  buffers agree with them at a grid point, with its three steps.
-/
module

public import proofs.«01_k».proof.Proof.Gen.KernelIdeal.Launch
public import proofs.«01_k».proof.Proof.Gen.KernelIdeal.Skeleton
public import Idealize.ShloMosaic.Lib.ValueIdxCore
public import proofs.«01_k».proof.Proof.MegaRun

@[expose] public section

set_option maxRecDepth 16384

noncomputable section

namespace Cert.KernelIdeal.Mega

open Cert.KernelIdeal Cert.KernelIdeal.Gen Cert.KernelIdeal.Prep

open Idealize.ShloMosaic Idealize.ShloMosaic.ValueIdx

variable {F : FTy → Type} [FloatOps F] [Named F]

/-! ## The grid: `t = 16 b + 8 p + l` -/

theorem coords0 : ∀ t : Fin grid1.N, ((grid1.coords t) 0).val = t.val / 16 := by decide +kernel
theorem coords1 : ∀ t : Fin grid1.N, ((grid1.coords t) 1).val = t.val / 8 % 2 := by decide +kernel
theorem coords2 : ∀ t : Fin grid1.N, ((grid1.coords t) 2).val = t.val % 8 := by decide +kernel

theorem cond1_at : ∀ t : Fin grid1.N, k1_cond1 (grid1.coords t) = 1#1 ↔ t.val % 16 < 8 := by decide +kernel
theorem cond2_at : ∀ t : Fin grid1.N, cond2 (grid1.coords t) = 1#1 ↔ t.val % 16 = 8 := by decide +kernel
theorem cond3_at : ∀ t : Fin grid1.N, k1_cond3 (grid1.coords t) = 1#1 ↔ 8 ≤ t.val % 16 := by decide +kernel

theorem off1_at : ∀ t : Fin grid1.N, k1_off1 (grid1.coords t) = ![1024 * (t.val % 8), 0] := by decide +kernel
theorem off2_at : ∀ t : Fin grid1.N, k1_off2 (grid1.coords t) = ![1024 * (t.val % 8), 0] := by decide +kernel
theorem off3_at : ∀ t : Fin grid1.N, k1_off3 (grid1.coords t) = ![1024 * (t.val % 8), 1024] := by decide +kernel
theorem off4_at : ∀ t : Fin grid1.N, k1_off4 (grid1.coords t) = ![1024 * (t.val % 8), 0] := by decide +kernel
theorem off5_at : ∀ t : Fin grid1.N, k1_off5 (grid1.coords t) = ![1024 * (t.val % 8), 0] := by decide +kernel

theorem lt_16 (t : Fin grid1.N) : t.val / 16 < 4 := by
  have : t.val < 64 := t.isLt.trans_eq N_1
  omega

/-! ## The values -/

/-- What the second call reads: the score rows, the two weight matrices, the two scales and the rows of `x`. -/
structure Ins (F : FTy → Type) where
  kq : S128x1024.Idx → F .bf16
  wv : S1024x1024.Idx → F .bf16
  wo : S1024x1024.Idx → F .bf16
  sc : S2x128.Idx → F .f32
  x : S4x8192x1024.Idx → F .f32

variable (I : Ins F)

/-- Block `l` of batch entry `b` of `x`. -/
def xBlk (b : Fin 4) (l : Fin 8) : S1x1024x1024.Idx → F .f32 :=
  fun y => I.x (ix3 b ⟨1024 * l.val + (y 1).val, by have h1 : (y 1).val < 1024 := (y 1).isLt; omega⟩ ⟨(y 2).val, (y 2).isLt⟩)

/-- The block a row lies in. -/
def blkOf (r : Fin 8192) : Fin 8 := ⟨r.val / 1024, by omega⟩
/-- The row's place in its block. -/
def rowOf (r : Fin 8192) : Fin 1024 := ⟨r.val % 1024, by omega⟩

/-- The residual rows of batch entry `b`. -/
def resV (b : Fin 4) : S8192x1024.Idx → F .bf16 :=
  fun y => k1_pay5 (xBlk I b (blkOf (y 0))) (ix2 (rowOf (y 0)) ⟨(y 1).val, (y 1).isLt⟩)

/-- The quantised rows of batch entry `b` with their weight column. -/
def rqV (b : Fin 4) : S8192x1152.Idx → F .bf16 :=
  fun y => if h : (y 1).val < 1024 then k1_pay9 (xBlk I b (blkOf (y 0))) (ix2 (rowOf (y 0)) ⟨(y 1).val, h⟩)
    else k1_pay11 (xBlk I b (blkOf (y 0))) (ix2 (rowOf (y 0)) ⟨(y 1).val - 1024, by have h1 : (y 1).val < 1152 := (y 1).isLt; omega⟩)

/-- The score column of batch entry `b`. -/
def hV (b : Fin 4) : S8192x1.Idx → F .f32 :=
  fun y => k1_pay1 (k1_pay8 (xBlk I b (blkOf (y 0)))) (k1_pay10 (xBlk I b (blkOf (y 0)))) I.kq (ix2 (rowOf (y 0)) ⟨(y 1).val, (y 1).isLt⟩)

/-- The scale held at row `k` of the scale array. -/
def scV (k : Fin 2) : S1x1.Idx → F .f32 := fun _ => I.sc (ix2 k 0)

/-- The correction row of batch entry `b`. -/
def corrV (b : Fin 4) : S1x1024.Idx → F .f32 :=
  k1_pay2 (k1_pay15 (hV I b) (rqV I b) (scV I 0) I.wv I.wo) (k1_pay16 (hV I b) (rqV I b) (scV I 0) (scV I 1) I.wv)

/-- Block `l` of the residual rows. -/
def resBlk (b : Fin 4) (l : Fin 8) : S1024x1024.Idx → F .bf16 := k1_pay5 (xBlk I b l)

/-- The block written out at `(b, l)`. -/
def outBlk (b : Fin 4) (l : Fin 8) : S1x1024x1024.Idx → F .f32 := k1_pay3 (resBlk I b l) (corrV I b)

/-- The whole result. -/
def outV : S4x8192x1024.Idx → F .f32 :=
  fun y => outBlk I (y 0) (blkOf (y 1)) (ix3 0 (rowOf (y 1)) ⟨(y 2).val, (y 2).isLt⟩)

/-! ## Rows stored into a buffer -/

/-- A block of rows put at row `o`, columns from `o'`. -/
def put {n m k : Nat} {α : Type} (o o' : Nat) (w : (⟨2, ![1024, k]⟩ : Shape).Idx → α) (R : (⟨2, ![n, m]⟩ : Shape).Idx → α) : (⟨2, ![n, m]⟩ : Shape).Idx → α :=
  fun y => if h : (o ≤ (y 0).val ∧ (y 0).val < o + 1024) ∧ (o' ≤ (y 1).val ∧ (y 1).val < o' + k) then w (ix2 ⟨(y 0).val - o, by omega⟩ ⟨(y 1).val - o', by omega⟩) else R y

/-- At grid point `n` the row buffers agree with the values on the rows already stored, and from the first point of the
    second pass on the correction row is in place. -/
structure Good (n : Nat) (R : S8192x1024.Idx → F .bf16) (Q : S8192x1152.Idx → F .bf16) (H : S8192x1.Idx → F .f32) (C : S1x1024.Idx → F .f32) : Prop where
  res : ∀ b : Fin 4, b.val = n / 16 → ∀ y, (y 0).val < 1024 * (n % 16) → R y = resV I b y
  rq : ∀ b : Fin 4, b.val = n / 16 → ∀ y, (y 0).val < 1024 * (n % 16) → Q y = rqV I b y
  hh : ∀ b : Fin 4, b.val = n / 16 → ∀ y, (y 0).val < 1024 * (n % 16) → H y = hV I b y
  corr : ∀ b : Fin 4, b.val = n / 16 → 9 ≤ n % 16 → C = corrV I b

variable {I}

/-- Nothing is asked at the first point. -/
theorem good_zero (R Q H C) : Good I 0 R Q H C where
  res _ _ _ h := absurd h (by omega)
  rq _ _ _ h := absurd h (by omega)
  hh _ _ _ h := absurd h (by omega)
  corr _ _ h := absurd h (by omega)

/-- At a point starting a batch entry nothing is asked. -/
theorem good_start {n : Nat} (hn : n % 16 = 0) (R Q H C) : Good I n R Q H C where
  res _ _ _ h := absurd h (by omega)
  rq _ _ _ h := absurd h (by omega)
  hh _ _ _ h := absurd h (by omega)
  corr _ _ h := absurd h (by omega)

theorem put_low {n m k : Nat} {α : Type} (o o' : Nat) (w : (⟨2, ![1024, k]⟩ : Shape).Idx → α) (R : (⟨2, ![n, m]⟩ : Shape).Idx → α) (y) (h : (y 0).val < o ∨ (y 1).val < o') :
    put o o' w R y = R y := by
  unfold put; rw [dif_neg (by omega)]

theorem put_in {n m k : Nat} {α : Type} (o o' : Nat) (w : (⟨2, ![1024, k]⟩ : Shape).Idx → α) (R : (⟨2, ![n, m]⟩ : Shape).Idx → α) (y) (h : (o ≤ (y 0).val ∧ (y 0).val < o + 1024) ∧ (o' ≤ (y 1).val ∧ (y 1).val < o' + k)) :
    put o o' w R y = w (ix2 ⟨(y 0).val - o, by omega⟩ ⟨(y 1).val - o', by omega⟩) := by
  unfold put; rw [dif_pos h]

/-- A point of the collecting pass stores one more block of rows. -/
theorem good_pool {n : Nat} {R Q H C} (hn : n % 16 < 8) (hG : Good I n R Q H C) (b : Fin 4) (hb : b.val = n / 16) (l : Fin 8) (hl : l.val = n % 8) :
    Good I (n + 1) (put (1024 * (n % 8)) 0 (k1_pay5 (xBlk I b l)) R)
      (put (1024 * (n % 8)) 1024 (k1_pay11 (xBlk I b l)) (put (1024 * (n % 8)) 0 (k1_pay9 (xBlk I b l)) Q))
      (put (1024 * (n % 8)) 0 (k1_pay1 (k1_pay8 (xBlk I b l)) (k1_pay10 (xBlk I b l)) I.kq) H) C := by
  have e8 : n % 8 = n % 16 := by omega
  have key : ∀ y0 : Fin 8192, ¬ y0.val < 1024 * (n % 8) → y0.val < 1024 * ((n + 1) % 16) → y0.val < 1024 * (n % 8) + 1024 ∧ blkOf y0 = l ∧ (rowOf y0).val = y0.val - 1024 * (n % 8) := by
    intro y0 h1 h2
    refine ⟨by omega, Fin.ext ?_, ?_⟩
    · show y0.val / 1024 = l.val; omega
    · show y0.val % 1024 = _; omega
  refine ⟨fun b' hb' y hy => ?_, fun b' hb' y hy => ?_, fun b' hb' y hy => ?_, fun b' hb' h => absurd h (by omega)⟩
  all_goals
    obtain rfl : b' = b := Fin.ext (by omega)
    by_cases hlo : (y 0).val < 1024 * (n % 8)
  · rw [put_low _ _ _ _ _ (.inl hlo)]; exact hG.res b' hb y (by omega)
  · obtain ⟨h1, h2, h3⟩ := key (y 0) hlo hy
    have hc : (y 1).val < 1024 := (y 1).isLt
    rw [put_in _ _ _ _ _ (by omega)]
    unfold resV
    rw [h2]
    congr 1
    exact congrArg₂ ix2 (Fin.ext h3.symm) (Fin.ext (by simp))
  · rw [put_low _ _ _ _ _ (.inl hlo), put_low _ _ _ _ _ (.inl hlo)]; exact hG.rq b' hb y (by omega)
  · obtain ⟨h1, h2, h3⟩ := key (y 0) hlo hy
    have hc : (y 1).val < 1152 := (y 1).isLt
    unfold rqV
    by_cases h : (y 1).val < 1024
    · rw [put_low _ _ _ _ _ (.inr h), put_in _ _ _ _ _ (by omega), dif_pos h, h2]
      congr 1
      exact congrArg₂ ix2 (Fin.ext h3.symm) (Fin.ext (by simp))
    · rw [put_in _ _ _ _ _ (by omega), dif_neg h, h2]
      congr 1
      exact congrArg₂ ix2 (Fin.ext h3.symm) rfl
  · rw [put_low _ _ _ _ _ (.inl hlo)]; exact hG.hh b' hb y (by omega)
  · obtain ⟨h1, h2, h3⟩ := key (y 0) hlo hy
    have hc : (y 1).val < 1 := (y 1).isLt
    rw [put_in _ _ _ _ _ (by omega)]
    unfold hV
    rw [h2]
    congr 1
    exact congrArg₂ ix2 (Fin.ext h3.symm) (Fin.ext (by simp))

/-- Once the pass is over the whole buffers are the values. -/
theorem Good.whole {n : Nat} {R Q H C} (hn : 8 ≤ n % 16) (hG : Good I n R Q H C) (b : Fin 4) (hb : b.val = n / 16) :
    R = resV I b ∧ Q = rqV I b ∧ H = hV I b := by
  refine ⟨funext fun y => hG.res b hb y ?_, funext fun y => hG.rq b hb y ?_, funext fun y => hG.hh b hb y ?_⟩
  all_goals
    have h : (y 0).val < 8192 := (y 0).isLt
    omega

/-- The later points keep the buffers. -/
theorem Good.of_whole {n : Nat} (b : Fin 4) (hb : b.val = n / 16) : Good I n (resV I b) (rqV I b) (hV I b) (corrV I b) where
  res b' hb' y _ := by rw [Fin.ext (hb'.trans hb.symm)]
  rq b' hb' y _ := by rw [Fin.ext (hb'.trans hb.symm)]
  hh b' hb' y _ := by rw [Fin.ext (hb'.trans hb.symm)]
  corr b' hb' _ := by rw [Fin.ext (hb'.trans hb.symm)]

/-- After a point of the second pass. -/
theorem good_next {n : Nat} (hn : 8 ≤ n % 16) (b : Fin 4) (hb : b.val = n / 16) : Good I (n + 1) (resV I b) (rqV I b) (hV I b) (corrV I b) := by
  by_cases h : (n + 1) % 16 = 0
  · exact good_start h _ _ _ _
  · exact Good.of_whole b (by omega)

/-- The rows of a block of the residual values are the block's own. -/
theorem resV_block (b : Fin 4) (l : Fin 8) (y : S1024x1024.Idx) (z : S8192x1024.Idx) (h0 : (z 0).val = 1024 * l.val + (y 0).val) (h1 : (z 1).val = (y 1).val) :
    resV I b z = resBlk I b l y := by
  have hy : (y 0).val < 1024 := (y 0).isLt
  have e : blkOf (z 0) = l := Fin.ext (by show (z 0).val / 1024 = l.val; omega)
  unfold resV resBlk
  rw [e]
  congr 1
  rw [eq_ix2 y]
  exact congrArg₂ ix2 (Fin.ext (by show (z 0).val % 1024 = _; simp; omega)) (Fin.ext h1)

end Cert.KernelIdeal.Mega

end
-- ==== Proof.MegaReads.lean ====
/-
  What the second call's body leaves in each buffer it stores into, read off the run: the stored blocks over what was
  there.
-/
module

public import proofs.«01_k».proof.Proof.MegaData
public import Idealize.ShloMosaic.Lib.WritesUnit
public import Idealize.ShloMosaic.Lib.VecWindow

@[expose] public section

set_option maxRecDepth 16384

noncomputable section

namespace Cert.KernelIdeal.Mega

open Cert.KernelIdeal Cert.KernelIdeal.Gen Cert.KernelIdeal.Prep

open Idealize.ShloMosaic Idealize.ShloMosaic.ValueIdx
open Idealize.ShloMosaic.TcCoe Idealize.ShloMosaic.Tactic
open Idealize.SL Idealize.SL.RA Idealize.SL.BI
open Idealize.ShloMosaic.Rounds

variable {F : FTy → Type} [FloatOps F] [Named F]

/-! ## Three facts on any view -/

section View
variable {sp : Space} {n m : Nat} {e : EltTy} (v : View sig .tc sp (⟨2, ![n, m]⟩ : Shape) e) (f : v.ty.Contents (Elt F))

/-- A block of rows stored over contents reads as the block put over what was read. -/
theorem read_put {k : Nat} {off : Fin 2 → ℕ} (o o' : Nat) (heq : off = ![o, o'])
    (inb : ∀ a, off a + (![1024, k] : Fin 2 → ℕ) a ≤ (⟨2, ![n, m]⟩ : Shape).size a)
    (w : (Rect.unit (s := (⟨2, ![n, m]⟩ : Shape)) off ![1024, k] inb).shape.Idx → Elt F e) (L : List (View.Piece (Elt F) (⟨2, ![n, m]⟩ : Shape) e)) :
    v.read (Elt F) (v.writes (Elt F) f (⟨Rect.unit off ![1024, k] inb, w⟩ :: L)) = put o o' w (v.read (Elt F) (v.writes (Elt F) f L)) := by
  funext y
  by_cases h : (o ≤ (y 0).val ∧ (y 0).val < o + 1024) ∧ (o' ≤ (y 1).val ∧ (y 1).val < o' + k)
  · rw [put_in _ _ _ _ _ h]
    refine View.read_writes_cons_unit_of_mem v f inb w L y (ix2 ⟨(y 0).val - o, by omega⟩ ⟨(y 1).val - o', by omega⟩) heq fun a => ?_
    match a with
    | ⟨0, _⟩ => show (y 0).val = o + ((y 0).val - o); omega
    | ⟨1, _⟩ => show (y 1).val = o' + ((y 1).val - o'); omega
  · unfold put; rw [dif_neg h]
    by_cases h0 : (y 0).val < o ∨ o + 1024 ≤ (y 0).val
    · exact View.read_writes_cons_unit_of_not_mem v f inb w L y heq 0 h0
    · exact View.read_writes_cons_unit_of_not_mem v f inb w L y heq 1 (by show (y 1).val < o' ∨ o' + k ≤ (y 1).val; omega)

/-- A load of rows from row `o` reads those rows. -/
theorem read_rows {k : Nat} {off : Fin 2 → ℕ} (o : Nat) (heq : off = ![o, 0])
    (inb : ∀ a, off a + (![k, m] : Fin 2 → ℕ) a ≤ (⟨2, ![n, m]⟩ : Shape).size a) (ho : o + k ≤ n) (y : (⟨2, ![k, m]⟩ : Shape).Idx) :
    v.readAt (Elt F) (Rect.unit (s := (⟨2, ![n, m]⟩ : Shape)) off ![k, m] inb).toLoadRect f y = v.read (Elt F) f (ix2 ⟨o + (y 0).val, by have h : (y 0).val < k := (y 0).isLt; omega⟩ (y 1)) := by
  subst heq
  refine congrArg (v.read (Elt F) f) (funext fun a => Fin.ext ?_)
  match a with
  | ⟨0, _⟩ => show o + 1 * (y 0).val = o + (y 0).val; omega
  | ⟨1, _⟩ => show 0 + 1 * (y 1).val = (y 1).val; omega

end View

/-- A load of one entry of the scale array reads it. -/
theorem read_scale (v : View sig .tc .vmem S2x128 .f32) (f : v.ty.Contents (Elt F)) (k : Fin 2) {off : Fin 2 → ℕ} (heq : off = ![k.val, 0]) (inb : ∀ a, off a + S1x1.size a ≤ S2x128.size a) :
    v.readAt (Elt F) (Rect.unit (s := S2x128) off S1x1.size inb).toLoadRect f = fun _ => v.read (Elt F) f (ix2 k 0) := by
  subst heq
  funext y
  refine congrArg (v.read (Elt F) f) (funext fun a => Fin.ext ?_)
  match a with
  | ⟨0, _⟩ => show k.val + 1 * (y 0).val = k.val; have h : (y 0).val < 1 := (y 0).isLt; omega
  | ⟨1, _⟩ => show 0 + 1 * (y 1).val = 0; have h : (y 1).val < 1 := (y 1).isLt; omega

/-! ## The collecting pass -/

section Pool
variable (c : Dev nD)
    (M3 : Memref sig .tc .vmem S128x1024 .bf16) (h3 : M3.IsWhole)
    (M4 : Memref sig .tc .vmem S1x1024 .f32) (h4 : M4.IsWhole)
    (M5 : Memref sig .tc .vmem S1024x1024 .bf16) (h5 : M5.IsWhole)
    (M6 : Memref sig .tc .vmem S1024x1024 .bf16) (h6 : M6.IsWhole)
    (M7 : Memref sig .tc .vmem S2x128 .f32) (h7 : M7.IsWhole)
    (M8 : Memref sig .tc .vmem S1x1024x1024 .f32) (h8 : M8.IsWhole)
    (M9 : Memref sig .tc .vmem S1x1024x1024 .f32) (h9 : M9.IsWhole)
    (M10 : Memref sig .tc .vmem S8192x1024 .bf16) (h10 : M10.IsWhole)
    (M11 : Memref sig .tc .vmem S8192x1152 .bf16) (h11 : M11.IsWhole)
    (M12 : Memref sig .tc .vmem S8192x1 .f32) (h12 : M12.IsWhole)
    (M13 : Memref sig .tc .vmem S1x1024 .f32) (h13 : M13.IsWhole)
variable (t : Fin grid1.N) (hc1 : k1_cond1 (grid1.coords t) = 1#1) (hc2 : ¬ cond2 (grid1.coords t) = 1#1) (hc3 : ¬ k1_cond3 (grid1.coords t) = 1#1)
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13)

theorem pool_res : M10.view.read (Elt F) (poolRun (F := F) c (grid1.coords t) hc1 hc2 hc3 M3 h3 M4 h4 M5 h5 M6 h6 M7 h7 M8 h8 M9 h9 M10 h10 M11 h11 M12 h12 M13 h13 f3 f4 f5 f6 f7 f8 f9 f10 f11 f12 f13).1.1
    = put (1024 * (t.val % 8)) 0 (k1_pay5 (M8.view.read (Elt F) f8)) (M10.view.read (Elt F) f10) := by
  unfold poolRun
  dsimp only
  refine (read_put M10.view f10 _ 0 (off1_at t) _ _ []).trans ?_
  rw [View.writes_nil, View.readAt_full]

theorem pool_rq : M11.view.read (Elt F) (poolRun (F := F) c (grid1.coords t) hc1 hc2 hc3 M3 h3 M4 h4 M5 h5 M6 h6 M7 h7 M8 h8 M9 h9 M10 h10 M11 h11 M12 h12 M13 h13 f3 f4 f5 f6 f7 f8 f9 f10 f11 f12 f13).1.2.1
    = put (1024 * (t.val % 8)) 1024 (k1_pay11 (M8.view.read (Elt F) f8)) (put (1024 * (t.val % 8)) 0 (k1_pay9 (M8.view.read (Elt F) f8)) (M11.view.read (Elt F) f11)) := by
  unfold poolRun
  dsimp only
  refine (read_put M11.view f11 _ 1024 (off3_at t) _ _ _).trans ?_
  refine congrArg₂ (put _ _) ?_ ((read_put M11.view f11 _ 0 (off2_at t) _ _ []).trans ?_)
  · rw [View.readAt_full]
  · rw [View.writes_nil, View.readAt_full]

theorem pool_h : M12.view.read (Elt F) (poolRun (F := F) c (grid1.coords t) hc1 hc2 hc3 M3 h3 M4 h4 M5 h5 M6 h6 M7 h7 M8 h8 M9 h9 M10 h10 M11 h11 M12 h12 M13 h13 f3 f4 f5 f6 f7 f8 f9 f10 f11 f12 f13).1.2.2
    = put (1024 * (t.val % 8)) 0 (k1_pay1 (k1_pay8 (M8.view.read (Elt F) f8)) (k1_pay10 (M8.view.read (Elt F) f8)) (M3.view.read (Elt F) f3)) (M12.view.read (Elt F) f12) := by
  unfold poolRun
  dsimp only
  refine (read_put M12.view f12 _ 0 (off4_at t) _ _ []).trans ?_
  rw [View.writes_nil, View.readAt_full, View.readAt_full]

end Pool

/-! ## The second pass -/

section Fin
variable (c : Dev nD)
    (M3 : Memref sig .tc .vmem S128x1024 .bf16) (h3 : M3.IsWhole)
    (M4 : Memref sig .tc .vmem S1x1024 .f32) (h4 : M4.IsWhole)
    (M5 : Memref sig .tc .vmem S1024x1024 .bf16) (h5 : M5.IsWhole)
    (M6 : Memref sig .tc .vmem S1024x1024 .bf16) (h6 : M6.IsWhole)
    (M7 : Memref sig .tc .vmem S2x128 .f32) (h7 : M7.IsWhole)
    (M8 : Memref sig .tc .vmem S1x1024x1024 .f32) (h8 : M8.IsWhole)
    (M9 : Memref sig .tc .vmem S1x1024x1024 .f32) (h9 : M9.IsWhole)
    (M10 : Memref sig .tc .vmem S8192x1024 .bf16) (h10 : M10.IsWhole)
    (M11 : Memref sig .tc .vmem S8192x1152 .bf16) (h11 : M11.IsWhole)
    (M12 : Memref sig .tc .vmem S8192x1 .f32) (h12 : M12.IsWhole)
    (M13 : Memref sig .tc .vmem S1x1024 .f32) (h13 : M13.IsWhole)
variable (t : Fin grid1.N) (hc1 : ¬ k1_cond1 (grid1.coords t) = 1#1) (hc2 : cond2 (grid1.coords t) = 1#1) (hc2' : ¬ cond2 (grid1.coords t) = 1#1) (hc3 : k1_cond3 (grid1.coords t) = 1#1)
    (f3 : Bf (F := F) c M3) (f4 : Bf (F := F) c M4) (f5 : Bf (F := F) c M5) (f6 : Bf (F := F) c M6) (f7 : Bf (F := F) c M7) (f8 : Bf (F := F) c M8) (f10 : Bf (F := F) c M10) (f11 : Bf (F := F) c M11) (f12 : Bf (F := F) c M12) (f13 : Bf (F := F) c M13)

/-- Rows `1024 (n % 8)` on of a residual buffer. -/
def rowsAt (n : Nat) (R : S8192x1024.Idx → F .bf16) : S1024x1024.Idx → F .bf16 :=
  fun y => R (ix2 ⟨1024 * (n % 8) + (y 0).val, by have h : (y 0).val < 1024 := (y 0).isLt; omega⟩ (y 1))

/-- The correction row of given buffers. -/
def corrOf (H : S8192x1.Idx → F .f32) (Q : S8192x1152.Idx → F .bf16) (sc : S2x128.Idx → F .f32) (wv wo : S1024x1024.Idx → F .bf16) : S1x1024.Idx → F .f32 :=
  k1_pay2 (k1_pay15 H Q (fun _ => sc (ix2 0 0)) wv wo) (k1_pay16 H Q (fun _ => sc (ix2 0 0)) (fun _ => sc (ix2 1 0)) wv)

theorem corr_raw : (finRun.sl.H13_1 (F := F) c M5 M6 M7 M11 M12 f5 f6 f7 f11 f12)
    = [⟨Rect.unit (s := S1x1024) ![0, 0] S1x1024.size inb_S1x1024_S1x1024_0_0, corrOf (M12.view.read (Elt F) f12) (M11.view.read (Elt F) f11) (M7.view.read (Elt F) f7) (M5.view.read (Elt F) f5) (M6.view.read (Elt F) f6)⟩] := by
  unfold finRun.sl.H13_1 corrOf
  dsimp only
  rw [read_scale M7.view f7 0 (off := ![0, 0]) rfl inb_S2x128_S1x1_0_0, read_scale M7.view f7 1 (off := ![1, 0]) rfl inb_S2x128_S1x1_1_0,
    View.readAt_full M12.view f12 inb_S8192x1_S8192x1_0_0, View.readAt_full M11.view f11 inb_S8192x1152_S8192x1152_0_0,
    View.readAt_full M5.view f5 inb_S1024x1024_S1024x1024_0_0, View.readAt_full M6.view f6 inb_S1024x1024_S1024x1024_0_0]
  rfl

theorem fin_corr : M13.view.read (Elt F) (finRun (F := F) c (grid1.coords t) hc1 hc2 hc3 M3 h3 M4 h4 M5 h5 M6 h6 M7 h7 M8 h8 M9 h9 M10 h10 M11 h11 M12 h12 M13 h13 f3 f4 f5 f6 f7 f8 f10 f11 f12).1.2
    = corrOf (M12.view.read (Elt F) f12) (M11.view.read (Elt F) f11) (M7.view.read (Elt F) f7) (M5.view.read (Elt F) f5) (M6.view.read (Elt F) f6) := by
  unfold finRun
  dsimp only
  rw [corr_raw]
  exact View.read_writes_full M13.view _ _ _ _

theorem fin_out : M9.view.read (Elt F) (finRun (F := F) c (grid1.coords t) hc1 hc2 hc3 M3 h3 M4 h4 M5 h5 M6 h6 M7 h7 M8 h8 M9 h9 M10 h10 M11 h11 M12 h12 M13 h13 f3 f4 f5 f6 f7 f8 f10 f11 f12).1.1
    = k1_pay3 (rowsAt t.val (M10.view.read (Elt F) f10)) (corrOf (M12.view.read (Elt F) f12) (M11.view.read (Elt F) f11) (M7.view.read (Elt F) f7) (M5.view.read (Elt F) f5) (M6.view.read (Elt F) f6)) := by
  unfold finRun
  dsimp only
  unfold finRun.sl.H9_1
  rw [View.read_writes_full]
  refine congrArg₂ k1_pay3 (funext fun y => read_rows M10.view f10 _ (off5_at t) _ (by omega) y) ?_
  unfold finRun.sl.v16
  rw [corr_raw]
  exact (View.readAt_full M13.view _ _).trans (View.read_writes_full M13.view _ _ _ _)

theorem add_out : M9.view.read (Elt F) (addRun (F := F) c (grid1.coords t) hc1 hc2' hc3 M3 h3 M4 h4 M5 h5 M6 h6 M7 h7 M8 h8 M9 h9 M10 h10 M11 h11 M12 h12 M13 h13 f3 f4 f5 f6 f7 f8 f10 f11 f12 f13).1
    = k1_pay3 (rowsAt t.val (M10.view.read (Elt F) f10)) (M13.view.read (Elt F) f13) := by
  unfold addRun
  dsimp only
  unfold addRun.sl.H9_1
  rw [View.read_writes_full]
  refine congrArg₂ k1_pay3 (funext fun y => read_rows M10.view f10 _ (off5_at t) _ (by omega) y) ?_
  rw [View.readAt_full]

end Fin

end Cert.KernelIdeal.Mega

end
-- ==== Proof.MegaStep.lean ====
/-
  The second call's body over what its buffers read: from every buffer owned at stated contents, one point of each kind
  leaves every buffer owned at the next ones.
-/
module

public import proofs.«01_k».proof.Proof.MegaReads

@[expose] public section

set_option maxRecDepth 16384

noncomputable section

namespace Cert.KernelIdeal.Mega

open Cert.KernelIdeal Cert.KernelIdeal.Gen Cert.KernelIdeal.Prep

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A whole memref owned at contents is its buffer held at some contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

variable (c : Dev nD)
    (M3 : Memref sig .tc .vmem S128x1024 .bf16) (h3 : M3.IsWhole)
    (M4 : Memref sig .tc .vmem S1x1024 .f32) (h4 : M4.IsWhole)
    (M5 : Memref sig .tc .vmem S1024x1024 .bf16) (h5 : M5.IsWhole)
    (M6 : Memref sig .tc .vmem S1024x1024 .bf16) (h6 : M6.IsWhole)
    (M7 : Memref sig .tc .vmem S2x128 .f32) (h7 : M7.IsWhole)
    (M8 : Memref sig .tc .vmem S1x1024x1024 .f32) (h8 : M8.IsWhole)
    (M9 : Memref sig .tc .vmem S1x1024x1024 .f32) (h9 : M9.IsWhole)
    (M10 : Memref sig .tc .vmem S8192x1024 .bf16) (h10 : M10.IsWhole)
    (M11 : Memref sig .tc .vmem S8192x1152 .bf16) (h11 : M11.IsWhole)
    (M12 : Memref sig .tc .vmem S8192x1 .f32) (h12 : M12.IsWhole)
    (M13 : Memref sig .tc .vmem S1x1024 .f32) (h13 : M13.IsWhole)
variable (t : Fin grid1.N)

/-- A point of the collecting pass stores its block of rows into the three row buffers. -/
theorem pool_step (hc1 : k1_cond1 (grid1.coords t) = 1#1) (hc2 : ¬ cond2 (grid1.coords t) = 1#1) (hc3 : ¬ k1_cond3 (grid1.coords t) = 1#1) (X3 : S128x1024.Idx → Elt F .bf16) (X4 : S1x1024.Idx → Elt F .f32) (X5 : S1024x1024.Idx → Elt F .bf16) (X6 : S1024x1024.Idx → Elt F .bf16) (X7 : S2x128.Idx → Elt F .f32) (X8 : S1x1024x1024.Idx → Elt F .f32) (X9 : S1x1024x1024.Idx → Elt F .f32) (R : S8192x1024.Idx → Elt F .bf16) (Q : S8192x1152.Idx → Elt F .bf16) (H : S8192x1.Idx → Elt F .f32) (C : S1x1024.Idx → Elt F .f32) (E : Set ℕ) (K : PUnit → sProp 𝕄) :
    iprop(owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare R ∗ owns (c : Thread nD τ) M11 fullShare Q ∗ owns (c : Thread nD τ) M12 fullShare H ∗ owns (c : Thread nD τ) M13 fullShare C
        ∗ (iprop(owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare (put (1024 * (t.val % 8)) 0 (k1_pay5 X8) R) ∗ owns (c : Thread nD τ) M11 fullShare (put (1024 * (t.val % 8)) 1024 (k1_pay11 X8) (put (1024 * (t.val % 8)) 0 (k1_pay9 X8) Q)) ∗ owns (c : Thread nD τ) M12 fullShare (put (1024 * (t.val % 8)) 0 (k1_pay1 (k1_pay8 X8) (k1_pay10 X8) X3) H) ∗ owns (c : Thread nD τ) M13 fullShare C) -∗ K ⟨⟩))
      ⊢ wp frame (wpE (defs₀ (F := F)) Variants.none c none) E (cc1__mega_body (grid1.coords t) M3 h3 M4 h4 M5 h5 M6 h6 M7 h7 M8 h8 M9 h9 M10 h10 M11 h11 M12 h12 M13 h13) K := by
  rw [owns_pt c M3 h3 X3, owns_pt c M4 h4 X4, owns_pt c M5 h5 X5, owns_pt c M6 h6 X6, owns_pt c M7 h7 X7, owns_pt c M8 h8 X8, owns_pt c M9 h9 X9, owns_pt c M10 h10 R, owns_pt c M11 h11 Q, owns_pt c M12 h12 H, owns_pt c M13 h13 C]
  rw [owns_pt c M10 h10 (put (1024 * (t.val % 8)) 0 (k1_pay5 X8) R)]
  rw [owns_pt c M11 h11 (put (1024 * (t.val % 8)) 1024 (k1_pay11 X8) (put (1024 * (t.val % 8)) 0 (k1_pay9 X8) Q))]
  rw [owns_pt c M12 h12 (put (1024 * (t.val % 8)) 0 (k1_pay1 (k1_pay8 X8) (k1_pay10 X8) X3) H)]
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, Hk⟩
  subst e3 e4 e5 e6 e7 e8 e9 e10 e11 e12 e13
  iapply ((poolRun (F := F) c (grid1.coords t) hc1 hc2 hc3 M3 h3 M4 h4 M5 h5 M6 h6 M7 h7 M8 h8 M9 h9 M10 h10 M11 h11 M12 h12 M13 h13 f3 f4 f5 f6 f7 f8 f9 f10 f11 f12 f13).2  E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  iapply Hk
  isplitl [H3]
  · iexists _; isplitr; swap; (· iexact H3); ipureintro; exact rfl
  isplitl [H4]
  · iexists _; isplitr; swap; (· iexact H4); ipureintro; exact rfl
  isplitl [H5]
  · iexists _; isplitr; swap; (· iexact H5); ipureintro; exact rfl
  isplitl [H6]
  · iexists _; isplitr; swap; (· iexact H6); ipureintro; exact rfl
  isplitl [H7]
  · iexists _; isplitr; swap; (· iexact H7); ipureintro; exact rfl
  isplitl [H8]
  · iexists _; isplitr; swap; (· iexact H8); ipureintro; exact rfl
  isplitl [H9]
  · iexists _; isplitr; swap; (· iexact H9); ipureintro; exact rfl
  isplitl [H10]
  · iexists _; isplitr; swap; (· iexact H10); ipureintro; exact pool_res c M3 h3 M4 h4 M5 h5 M6 h6 M7 h7 M8 h8 M9 h9 M10 h10 M11 h11 M12 h12 M13 h13 t hc1 hc2 hc3 f3 f4 f5 f6 f7 f8 f9 f10 f11 f12 f13
  isplitl [H11]
  · iexists _; isplitr; swap; (· iexact H11); ipureintro; exact pool_rq c M3 h3 M4 h4 M5 h5 M6 h6 M7 h7 M8 h8 M9 h9 M10 h10 M11 h11 M12 h12 M13 h13 t hc1 hc2 hc3 f3 f4 f5 f6 f7 f8 f9 f10 f11 f12 f13
  isplitl [H12]
  · iexists _; isplitr; swap; (· iexact H12); ipureintro; exact pool_h c M3 h3 M4 h4 M5 h5 M6 h6 M7 h7 M8 h8 M9 h9 M10 h10 M11 h11 M12 h12 M13 h13 t hc1 hc2 hc3 f3 f4 f5 f6 f7 f8 f9 f10 f11 f12 f13
  iexists _; isplitr; swap; (· iexact H13); ipureintro; exact rfl

/-- The first point of the second pass stores the correction row and writes its block out. -/
theorem fin_step (hc1 : ¬ k1_cond1 (grid1.coords t) = 1#1) (hc2 : cond2 (grid1.coords t) = 1#1) (hc3 : k1_cond3 (grid1.coords t) = 1#1) (X3 : S128x1024.Idx → Elt F .bf16) (X4 : S1x1024.Idx → Elt F .f32) (X5 : S1024x1024.Idx → Elt F .bf16) (X6 : S1024x1024.Idx → Elt F .bf16) (X7 : S2x128.Idx → Elt F .f32) (X8 : S1x1024x1024.Idx → Elt F .f32) (X9 : S1x1024x1024.Idx → Elt F .f32) (R : S8192x1024.Idx → Elt F .bf16) (Q : S8192x1152.Idx → Elt F .bf16) (H : S8192x1.Idx → Elt F .f32) (C : S1x1024.Idx → Elt F .f32) (E : Set ℕ) (K : PUnit → sProp 𝕄) :
    iprop(owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare R ∗ owns (c : Thread nD τ) M11 fullShare Q ∗ owns (c : Thread nD τ) M12 fullShare H ∗ owns (c : Thread nD τ) M13 fullShare C
        ∗ (iprop(owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (k1_pay3 (rowsAt t.val R) (corrOf H Q X7 X5 X6)) ∗ owns (c : Thread nD τ) M10 fullShare R ∗ owns (c : Thread nD τ) M11 fullShare Q ∗ owns (c : Thread nD τ) M12 fullShare H ∗ owns (c : Thread nD τ) M13 fullShare (corrOf H Q X7 X5 X6)) -∗ K ⟨⟩))
      ⊢ wp frame (wpE (defs₀ (F := F)) Variants.none c none) E (cc1__mega_body (grid1.coords t) M3 h3 M4 h4 M5 h5 M6 h6 M7 h7 M8 h8 M9 h9 M10 h10 M11 h11 M12 h12 M13 h13) K := by
  rw [owns_pt c M3 h3 X3, owns_pt c M4 h4 X4, owns_pt c M5 h5 X5, owns_pt c M6 h6 X6, owns_pt c M7 h7 X7, owns_pt c M8 h8 X8, owns_pt c M9 h9 X9, owns_pt c M10 h10 R, owns_pt c M11 h11 Q, owns_pt c M12 h12 H, owns_pt c M13 h13 C]
  rw [owns_pt c M9 h9 (k1_pay3 (rowsAt t.val R) (corrOf H Q X7 X5 X6))]
  rw [owns_pt c M13 h13 (corrOf H Q X7 X5 X6)]
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, Hk⟩
  subst e3 e4 e5 e6 e7 e8 e9 e10 e11 e12 e13
  iapply ((finRun (F := F) c (grid1.coords t) hc1 hc2 hc3 M3 h3 M4 h4 M5 h5 M6 h6 M7 h7 M8 h8 M9 h9 M10 h10 M11 h11 M12 h12 M13 h13 f3 f4 f5 f6 f7 f8 f10 f11 f12).2 f9 f13 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  iapply Hk
  isplitl [H3]
  · iexists _; isplitr; swap; (· iexact H3); ipureintro; exact rfl
  isplitl [H4]
  · iexists _; isplitr; swap; (· iexact H4); ipureintro; exact rfl
  isplitl [H5]
  · iexists _; isplitr; swap; (· iexact H5); ipureintro; exact rfl
  isplitl [H6]
  · iexists _; isplitr; swap; (· iexact H6); ipureintro; exact rfl
  isplitl [H7]
  · iexists _; isplitr; swap; (· iexact H7); ipureintro; exact rfl
  isplitl [H8]
  · iexists _; isplitr; swap; (· iexact H8); ipureintro; exact rfl
  isplitl [H9]
  · iexists _; isplitr; swap; (· iexact H9); ipureintro; exact fin_out c M3 h3 M4 h4 M5 h5 M6 h6 M7 h7 M8 h8 M9 h9 M10 h10 M11 h11 M12 h12 M13 h13 t hc1 hc2 hc3 f3 f4 f5 f6 f7 f8 f10 f11 f12
  isplitl [H10]
  · iexists _; isplitr; swap; (· iexact H10); ipureintro; exact rfl
  isplitl [H11]
  · iexists _; isplitr; swap; (· iexact H11); ipureintro; exact rfl
  isplitl [H12]
  · iexists _; isplitr; swap; (· iexact H12); ipureintro; exact rfl
  iexists _; isplitr; swap; (· iexact H13); ipureintro; exact fin_corr c M3 h3 M4 h4 M5 h5 M6 h6 M7 h7 M8 h8 M9 h9 M10 h10 M11 h11 M12 h12 M13 h13 t hc1 hc2 hc3 f3 f4 f5 f6 f7 f8 f10 f11 f12

/-- A later point of the second pass writes its block out. -/
theorem add_step (hc1 : ¬ k1_cond1 (grid1.coords t) = 1#1) (hc2 : ¬ cond2 (grid1.coords t) = 1#1) (hc3 : k1_cond3 (grid1.coords t) = 1#1) (X3 : S128x1024.Idx → Elt F .bf16) (X4 : S1x1024.Idx → Elt F .f32) (X5 : S1024x1024.Idx → Elt F .bf16) (X6 : S1024x1024.Idx → Elt F .bf16) (X7 : S2x128.Idx → Elt F .f32) (X8 : S1x1024x1024.Idx → Elt F .f32) (X9 : S1x1024x1024.Idx → Elt F .f32) (R : S8192x1024.Idx → Elt F .bf16) (Q : S8192x1152.Idx → Elt F .bf16) (H : S8192x1.Idx → Elt F .f32) (C : S1x1024.Idx → Elt F .f32) (E : Set ℕ) (K : PUnit → sProp 𝕄) :
    iprop(owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare R ∗ owns (c : Thread nD τ) M11 fullShare Q ∗ owns (c : Thread nD τ) M12 fullShare H ∗ owns (c : Thread nD τ) M13 fullShare C
        ∗ (iprop(owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (k1_pay3 (rowsAt t.val R) C) ∗ owns (c : Thread nD τ) M10 fullShare R ∗ owns (c : Thread nD τ) M11 fullShare Q ∗ owns (c : Thread nD τ) M12 fullShare H ∗ owns (c : Thread nD τ) M13 fullShare C) -∗ K ⟨⟩))
      ⊢ wp frame (wpE (defs₀ (F := F)) Variants.none c none) E (cc1__mega_body (grid1.coords t) M3 h3 M4 h4 M5 h5 M6 h6 M7 h7 M8 h8 M9 h9 M10 h10 M11 h11 M12 h12 M13 h13) K := by
  rw [owns_pt c M3 h3 X3, owns_pt c M4 h4 X4, owns_pt c M5 h5 X5, owns_pt c M6 h6 X6, owns_pt c M7 h7 X7, owns_pt c M8 h8 X8, owns_pt c M9 h9 X9, owns_pt c M10 h10 R, owns_pt c M11 h11 Q, owns_pt c M12 h12 H, owns_pt c M13 h13 C]
  rw [owns_pt c M9 h9 (k1_pay3 (rowsAt t.val R) C)]
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, Hk⟩
  subst e3 e4 e5 e6 e7 e8 e9 e10 e11 e12 e13
  iapply ((addRun (F := F) c (grid1.coords t) hc1 hc2 hc3 M3 h3 M4 h4 M5 h5 M6 h6 M7 h7 M8 h8 M9 h9 M10 h10 M11 h11 M12 h12 M13 h13 f3 f4 f5 f6 f7 f8 f10 f11 f12 f13).2 f9 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  iapply Hk
  isplitl [H3]
  · iexists _; isplitr; swap; (· iexact H3); ipureintro; exact rfl
  isplitl [H4]
  · iexists _; isplitr; swap; (· iexact H4); ipureintro; exact rfl
  isplitl [H5]
  · iexists _; isplitr; swap; (· iexact H5); ipureintro; exact rfl
  isplitl [H6]
  · iexists _; isplitr; swap; (· iexact H6); ipureintro; exact rfl
  isplitl [H7]
  · iexists _; isplitr; swap; (· iexact H7); ipureintro; exact rfl
  isplitl [H8]
  · iexists _; isplitr; swap; (· iexact H8); ipureintro; exact rfl
  isplitl [H9]
  · iexists _; isplitr; swap; (· iexact H9); ipureintro; exact add_out c M3 h3 M4 h4 M5 h5 M6 h6 M7 h7 M8 h8 M9 h9 M10 h10 M11 h11 M12 h12 M13 h13 t hc1 hc2 hc3 f3 f4 f5 f6 f7 f8 f10 f11 f12 f13
  isplitl [H10]
  · iexists _; isplitr; swap; (· iexact H10); ipureintro; exact rfl
  isplitl [H11]
  · iexists _; isplitr; swap; (· iexact H11); ipureintro; exact rfl
  isplitl [H12]
  · iexists _; isplitr; swap; (· iexact H12); ipureintro; exact rfl
  iexists _; isplitr; swap; (· iexact H13); ipureintro; exact rfl

end Cert.KernelIdeal.Mega

end
-- ==== Proof.MegaPipe.lean ====
/-
  The second call as a pipeline: what its windows hold at every point, the invariant over its row buffers, its body
  obligation, and its array after the run.
-/
module

public import proofs.«01_k».proof.Proof.MegaStep
public import proofs.«01_k».proof.Proof.Gen.KernelIdeal.Points
public import Idealize.ShloMosaic.Lib.Pipeline.FrameBody
public import Idealize.ShloMosaic.Lib.Pipeline.ValueKit.Geometry

@[expose] public section

set_option maxRecDepth 16384

noncomputable section

namespace Cert.KernelIdeal.Mega

open Cert.KernelIdeal Cert.KernelIdeal.Gen Cert.KernelIdeal.Prep

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the call reads of the entry contents. -/
def ins (c : Dev nD) : Ins F where
  kq := V c main_v5_0
  wv := V c main_v5_1
  wo := V c main_v5_2
  sc := V c main_v5_3
  x := V c main_arg2

/-- A window's block at a point, read off the entry contents. -/
abbrev stg (c : Dev nD) (w : Fin 7) (t : Fin cfg1.N) := ((cfg1.win w).blk t).view.read (Elt F) (V c (Pipeline.arrRef spec1 w))

/-- The batch entry and the block of a point. -/
def bOf (t : Fin cfg1.N) : Fin 4 := ⟨t.val / 16, lt_16 t⟩
def lOf (t : Fin cfg1.N) : Fin 8 := ⟨t.val % 8, by omega⟩

/-- The first call's staging buffers, held at something. -/
abbrev rest9 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f))

/-- The invariant before point `n`: the row buffers agree with the values as far as `Good` says. -/
def Inv (c : Dev nD) (n : Nat) : sProp 𝕄 :=
  iprop(rest9 (F := F) c ∗ ∃ R Q H C, ⌜Good (ins V c) n R Q H C⌝
    ∗ owns (c : Thread nD τ) (Memref.whole cc1_scratch0) fullShare R ∗ owns (c : Thread nD τ) (Memref.whole cc1_scratch1) fullShare Q
    ∗ owns (c : Thread nD τ) (Memref.whole cc1_scratch2) fullShare H ∗ owns (c : Thread nD τ) (Memref.whole cc1_scratch3) fullShare C)

/-- The second call's proof data at an entry valuation. -/
def dat (c : Dev nD) : Dat τ (Elt F) Unit ℕ (UR sig nD τ) ℕ cfg1 c where
  A w := V c (Pipeline.arrRef spec1 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => outBlk (ins V c) (bOf t) (lOf t)
  Φ t := Inv V c t.val
  q _ := fullShare
  owed _ := 0

/-! ## The windows' blocks -/

theorem idx0 : ∀ t : Fin cfg1.N, win1_0.index t = ![0, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![0, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, t.val % 16 < 8 → win1_5.index t = ![t.val / 16, t.val % 8, 0] := (by decide +kernel : ∀ t : Fin grid1.N, _)
theorem idx6 : ∀ t : Fin cfg1.N, 8 ≤ t.val % 16 → win1_6.index t = ![t.val / 16, t.val % 8, 0] := (by decide +kernel : ∀ t : Fin grid1.N, _)

theorem stg0 (c : Dev nD) (t : Fin cfg1.N) : stg V c 0 t = (ins V c).kq := by
  funext y
  refine congrArg (V c main_v5_0) (?_ : (win1_0.blk t).view.emb y = y)
  blk_ext [idx0]

theorem stg2 (c : Dev nD) (t : Fin cfg1.N) : stg V c 2 t = (ins V c).wv := by
  funext y
  refine congrArg (V c main_v5_1) (?_ : (win1_2.blk t).view.emb y = y)
  blk_ext [idx2]

theorem stg3 (c : Dev nD) (t : Fin cfg1.N) : stg V c 3 t = (ins V c).wo := by
  funext y
  refine congrArg (V c main_v5_2) (?_ : (win1_3.blk t).view.emb y = y)
  blk_ext [idx3]

theorem stg4 (c : Dev nD) (t : Fin cfg1.N) : stg V c 4 t = (ins V c).sc := by
  funext y
  refine congrArg (V c main_v5_3) (?_ : (win1_4.blk t).view.emb y = y)
  blk_ext [idx4]

theorem stg5 (c : Dev nD) (t : Fin cfg1.N) (ht : t.val % 16 < 8) : stg V c 5 t = xBlk (ins V c) (bOf t) (lOf t) := by
  funext y
  have h1 : (y 1).val < 1024 := (y 1).isLt
  refine congrArg (V c main_arg2) (?_ : (win1_5.blk t).view.emb y = ix3 (bOf t) ⟨1024 * (lOf t).val + (y 1).val, by have := (lOf t).isLt; omega⟩ ⟨(y 2).val, (y 2).isLt⟩)
  have e := idx5 t ht
  blk_ext [e, bOf, lOf]

/-! ## What the body finds -/

theorem before0 (c : Dev nD) (t : Fin cfg1.N) (d) : (dat V c).before 0 t d = (ins V c).kq :=
  ((dat V c).before_in_eq_fetched 0 rfl (fun _ => rfl) (fun _ _ _ => rfl) (fun _ => rfl) t d).trans (stg0 V c t)

theorem before1 (c : Dev nD) (t : Fin cfg1.N) (d) : (dat V c).before 1 t d = stg V c 1 t :=
  ((dat V c).before_in_eq_fetched 1 rfl (fun _ => rfl) (fun _ _ _ => rfl) (fun _ => rfl) t d).trans (rfl)

theorem before2 (c : Dev nD) (t : Fin cfg1.N) (d) : (dat V c).before 2 t d = (ins V c).wv :=
  ((dat V c).before_in_eq_fetched 2 rfl (fun _ => rfl) (fun _ _ _ => rfl) (fun _ => rfl) t d).trans (stg2 V c t)

theorem before3 (c : Dev nD) (t : Fin cfg1.N) (d) : (dat V c).before 3 t d = (ins V c).wo :=
  ((dat V c).before_in_eq_fetched 3 rfl (fun _ => rfl) (fun _ _ _ => rfl) (fun _ => rfl) t d).trans (stg3 V c t)

theorem before4 (c : Dev nD) (t : Fin cfg1.N) (d) : (dat V c).before 4 t d = (ins V c).sc :=
  ((dat V c).before_in_eq_fetched 4 rfl (fun _ => rfl) (fun _ _ _ => rfl) (fun _ => rfl) t d).trans (stg4 V c t)

theorem before5 (c : Dev nD) (t : Fin cfg1.N) (d) : (dat V c).before 5 t d = stg V c 5 t :=
  (dat V c).before_in_eq_fetched 5 rfl (fun _ => rfl) (fun _ _ _ => rfl) (fun _ => rfl) t d

theorem idle_at (t : Fin cfg1.N) (ht : t.val % 16 < 8) : idle1 6 (grid1.coords t) = true :=
  (by decide +kernel : ∀ t : Fin grid1.N, t.val % 16 < 8 → idle1 6 (grid1.coords t) = true) t ht
theorem live_at (t : Fin cfg1.N) (ht : 8 ≤ t.val % 16) : idle1 6 (grid1.coords t) = false :=
  (by decide +kernel : ∀ t : Fin grid1.N, 8 ≤ t.val % 16 → idle1 6 (grid1.coords t) = false) t ht
theorem flush_at (t : Fin cfg1.N) (ht : t.val % 16 < 8) : (win1 6).flush t = false :=
  (by decide +kernel : ∀ t : Fin grid1.N, t.val % 16 < 8 → win1_6.flush t = false) t ht
theorem flush_ge (t : Fin cfg1.N) (hf : (win1 6).flush t = true) : 8 ≤ t.val % 16 := by
  by_contra h
  rw [flush_at t (by omega)] at hf
  exact Bool.false_ne_true hf

/-- The rows of a block of whole residual values. -/
theorem rowsAt_resV (c : Dev nD) (t : Fin cfg1.N) : rowsAt t.val (resV (ins V c) (bOf t)) = resBlk (ins V c) (bOf t) (lOf t) :=
  funext fun y => resV_block (bOf t) (lOf t) y _ rfl rfl

theorem after0 (c : Dev nD) (t : Fin cfg1.N) : (dat V c).after 0 t = (ins V c).kq := stg0 V c t
theorem after2 (c : Dev nD) (t : Fin cfg1.N) : (dat V c).after 2 t = (ins V c).wv := stg2 V c t
theorem after3 (c : Dev nD) (t : Fin cfg1.N) : (dat V c).after 3 t = (ins V c).wo := stg3 V c t
theorem after4 (c : Dev nD) (t : Fin cfg1.N) : (dat V c).after 4 t = (ins V c).sc := stg4 V c t
theorem after1 (c : Dev nD) (t : Fin cfg1.N) : (dat V c).after 1 t = stg V c 1 t := rfl
theorem after5 (c : Dev nD) (t : Fin cfg1.N) : (dat V c).after 5 t = stg V c 5 t := rfl
theorem after6 (c : Dev nD) (t : Fin cfg1.N) : (dat V c).after 6 t = outBlk (ins V c) (bOf t) (lOf t) := rfl

set_option maxHeartbeats 1000000 in
/-- The body obligation: at each kind of point its step, the invariant carried along. -/
theorem body_obligation (c : Dev nD) : BodyObligation (dat V c) (defs₀ (F := F)) Variants.none () Set.univ := fun t => by
  rw [bigSep_W1, bigSep_W1]
  rw [show (dat V c).Φ t.castSucc = Inv V c t.val from rfl, show (dat V c).Φ t.succ = Inv V c (t.val + 1) from rfl,
    show (dat V c).owesAt () t.succ = (dat V c).owesAt () t.castSucc from rfl]
  simp only [before0, before1, before2, before3, before4, before5, after0, after1, after2, after3, after4, after5, after6]
  rw [show defs₀ (F := F) Proc.tc 1 (t, cfg1.slots t) = bodyAt1 t from rfl]
  by_cases h1 : t.val % 16 < 8
  · simp only [idle_at t h1, flush_at t h1, stg5 V c t h1]
    unfold Inv
    iintro ⟨⟨Hrest, %R, %Q, %H, %C, %hG, SR, SQ, SH, SC⟩, Ho, ⟨%d0, W0⟩, ⟨%d1, W1⟩, ⟨%d2, W2⟩, ⟨%d3, W3⟩, ⟨%d4, W4⟩, ⟨%d5, W5⟩, ⟨%d6, W6⟩⟩
    iapply (pool_step (F := F) c (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) t ((cond1_at t).mpr h1) (fun h => by have := (cond2_at t).mp h; omega) (fun h => by have := (cond3_at t).mp h; omega) _ _ _ _ _ _ _ _ _ _ _ Set.univ _)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [SR]; · iexact SR
    isplitl [SQ]; · iexact SQ
    isplitl [SH]; · iexact SH
    isplitl [SC]; · iexact SC
    iintro ⟨W0, W1, W2, W3, W4, W5, W6, SR, SQ, SH, SC⟩
    isplitl [Hrest SR SQ SH SC]
    · isplitl [Hrest]; · iexact Hrest
      iexists _; iexists _; iexists _; iexists _
      isplitr; · ipureintro; exact good_pool h1 hG (bOf t) rfl (lOf t) rfl
      isplitl [SR]; · iexact SR
      isplitl [SQ]; · iexact SQ
      isplitl [SH]; · iexact SH
      iexact SC
    isplitl [Ho]; · iexact Ho
    isplitl [W0]; · iexact W0
    isplitl [W1]; · iexact W1
    isplitl [W2]; · iexact W2
    isplitl [W3]; · iexact W3
    isplitl [W4]; · iexact W4
    isplitl [W5]; · iexact W5
    iexists d6; iexact W6
  · simp only [live_at t (by omega)]
    unfold Inv
    iintro ⟨⟨Hrest, %R, %Q, %H, %C, %hG, SR, SQ, SH, SC⟩, Ho, ⟨%d0, W0⟩, ⟨%d1, W1⟩, ⟨%d2, W2⟩, ⟨%d3, W3⟩, ⟨%d4, W4⟩, ⟨%d5, W5⟩, ⟨%d6, W6⟩⟩
    obtain ⟨rfl, rfl, rfl⟩ := hG.whole (by omega) (bOf t) rfl
    by_cases h2 : t.val % 16 = 8
    · iapply (fin_step (F := F) c (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) t (fun h => h1 ((cond1_at t).mp h)) ((cond2_at t).mpr h2) ((cond3_at t).mpr (by omega)) _ _ _ _ _ _ _ _ _ _ _ Set.univ _)
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [SR]; · iexact SR
      isplitl [SQ]; · iexact SQ
      isplitl [SH]; · iexact SH
      isplitl [SC]; · iexact SC
      iintro ⟨W0, W1, W2, W3, W4, W5, W6, SR, SQ, SH, SC⟩
      isplitl [Hrest SR SQ SH SC]
      · isplitl [Hrest]; · iexact Hrest
        iexists _; iexists _; iexists _; iexists _
        isplitr; · ipureintro; exact good_next (by omega) (bOf t) rfl
        isplitl [SR]; · iexact SR
        isplitl [SQ]; · iexact SQ
        isplitl [SH]; · iexact SH
        iexact SC
      isplitl [Ho]; · iexact Ho
      isplitl [W0]; · iexact W0
      isplitl [W1]; · iexact W1
      isplitl [W2]; · iexact W2
      isplitl [W3]; · iexact W3
      isplitl [W4]; · iexact W4
      isplitl [W5]; · iexact W5
      rw [rowsAt_resV]
      iexact W6
    · obtain rfl := hG.corr (bOf t) rfl (by omega)
      iapply (add_step (F := F) c (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) t (fun h => h1 ((cond1_at t).mp h)) (fun h => h2 ((cond2_at t).mp h)) ((cond3_at t).mpr (by omega)) _ _ _ _ _ _ _ _ _ _ _ Set.univ _)
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [SR]; · iexact SR
      isplitl [SQ]; · iexact SQ
      isplitl [SH]; · iexact SH
      isplitl [SC]; · iexact SC
      iintro ⟨W0, W1, W2, W3, W4, W5, W6, SR, SQ, SH, SC⟩
      isplitl [Hrest SR SQ SH SC]
      · isplitl [Hrest]; · iexact Hrest
        iexists _; iexists _; iexists _; iexists _
        isplitr; · ipureintro; exact good_next (by omega) (bOf t) rfl
        isplitl [SR]; · iexact SR
        isplitl [SQ]; · iexact SQ
        isplitl [SH]; · iexact SH
        iexact SC
      isplitl [Ho]; · iexact Ho
      isplitl [W0]; · iexact W0
      isplitl [W1]; · iexact W1
      isplitl [W2]; · iexact W2
      isplitl [W3]; · iexact W3
      isplitl [W4]; · iexact W4
      isplitl [W5]; · iexact W5
      rw [rowsAt_resV]
      iexact W6

/-! ## The result's array after the run -/

theorem arr_out (c : Dev nD) : (dat V c).arrAt 6 cfg1.N = outV (ins V c) := by
  refine (dat V c).arrAt_eq_of_covers 6 _ (by decide +kernel) fun t hf y => ?_
  have ht := flush_ge t hf
  blk_simp
  rw [after6]
  have e := idx6 t ht
  have hy0 : (y 0).val < 1 := (y 0).isLt
  have hy1 : (y 1).val < 1024 := (y 1).isLt
  have k0 : (((win1_6.blk t).view.emb y 0 : Fin _) : ℕ) = t.val / 16 := by blk_simp [e]
  have k1 : (((win1_6.blk t).view.emb y 1 : Fin _) : ℕ) = 1024 * (t.val % 8) + (y 1).val := by blk_simp [e]; omega
  have k2 : (((win1_6.blk t).view.emb y 2 : Fin _) : ℕ) = (y 2).val := by blk_simp [e]
  unfold outV
  have e0 : ((win1_6.blk t).view.emb y 0 : Fin 4) = bOf t := Fin.ext k0
  have e1 : blkOf ((win1_6.blk t).view.emb y 1) = lOf t := Fin.ext (by show _ / 1024 = t.val % 8; rw [k1]; omega)
  rw [e0, e1]
  refine congrArg (outBlk (ins V c) (bOf t) (lOf t)) ?_
  funext a
  refine Fin.ext ?_
  match a with
  | ⟨0, _⟩ => show (y 0).val = 0; omega
  | ⟨1, _⟩ => show (y 1).val = _ % 1024; rw [k1]; omega
  | ⟨2, _⟩ => exact k2.symm

end Cert.KernelIdeal.Mega

end
-- ==== Proof.PrepPipe.lean ====
/-
  The first call as a pipeline: what its body leaves in each result's buffer as a function of what the operands' buffers
  read, its proof data, its body obligation, and its arrays after the run.
-/
module

public import proofs.«01_k».proof.Proof.MegaStep
public import proofs.«01_k».proof.Proof.PrepRun
public import proofs.«01_k».proof.Proof.Gen.KernelIdeal.Points
public import Idealize.ShloMosaic.Lib.Pipeline.FrameBody
public import Idealize.ShloMosaic.Lib.Pipeline.ValueKit.Geometry

@[expose] public section

set_option maxRecDepth 16384

noncomputable section

namespace Cert.KernelIdeal.Prep

open Cert.KernelIdeal Cert.KernelIdeal.Gen Cert.KernelIdeal.Mega

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first result: the query row carried through the key weights, on every row. -/
def kqOf (X0 : S1x1536.Idx → Elt F .f32) (X1 : S1024x1536.Idx → Elt F .f32) (X2 : S1024x1024.Idx → Elt F .f32) : S128x1024.Idx → Elt F .bf16 :=
  k0_pay6 (k0_pay4 X0 X1) X2 (k0_pay5 X2) (Scalar.ofBits .f32 0x322BCC77#32)

section Reads
variable {c : Dev nD}
    (M0 : Memref sig .tc .vmem S1x1536 .f32) (h0 : M0.IsWhole)
    (M1 : Memref sig .tc .vmem S1024x1536 .f32) (h1 : M1.IsWhole)
    (M2 : Memref sig .tc .vmem S1024x1024 .f32) (h2 : M2.IsWhole)
    (M3 : Memref sig .tc .vmem S1024x1024 .f32) (h3 : M3.IsWhole)
    (M4 : Memref sig .tc .vmem S1024x1024 .f32) (h4 : M4.IsWhole)
    (M5 : Memref sig .tc .vmem S128x1024 .bf16) (h5 : M5.IsWhole)
    (M6 : Memref sig .tc .vmem S1024x1024 .bf16) (h6 : M6.IsWhole)
    (M7 : Memref sig .tc .vmem S1024x1024 .bf16) (h7 : M7.IsWhole)
    (M8 : Memref sig .tc .vmem S2x128 .f32) (h8 : M8.IsWhole)
    (f0 : Bf (F := F) c M0) (f1 : Bf (F := F) c M1) (f2 : Bf (F := F) c M2) (f3 : Bf (F := F) c M3) (f4 : Bf (F := F) c M4)

/-- What result 0's buffer reads after the body. -/
theorem prep_out5 : M5.view.read (Elt F) (prepRun c M0 h0 M1 h1 M2 h2 M3 h3 M4 h4 M5 h5 M6 h6 M7 h7 M8 h8 f0 f1 f2 f3 f4).1.1 = (kqOf (M0.view.read (Elt F) f0) (M1.view.read (Elt F) f1) (M2.view.read (Elt F) f2)) := by
  unfold prepRun kqOf
  dsimp only
  unfold prepRun.sl.H5_1
  refine (View.read_writes_full M5.view _ _ _ _).trans ?_
  rw [View.readAt_full M0.view f0, View.readAt_full M1.view f1, View.readAt_full M2.view f2]
  rfl

/-- What result 1's buffer reads after the body. -/
theorem prep_out6 : M6.view.read (Elt F) (prepRun c M0 h0 M1 h1 M2 h2 M3 h3 M4 h4 M5 h5 M6 h6 M7 h7 M8 h8 f0 f1 f2 f3 f4).1.2.1 = (k0_pay8 (M3.view.read (Elt F) f3)) := by
  unfold prepRun
  dsimp only
  unfold prepRun.sl.H6_1
  refine (View.read_writes_full M6.view _ _ _ _).trans ?_
  rw [View.readAt_full M3.view f3]

/-- What result 2's buffer reads after the body. -/
theorem prep_out7 : M7.view.read (Elt F) (prepRun c M0 h0 M1 h1 M2 h2 M3 h3 M4 h4 M5 h5 M6 h6 M7 h7 M8 h8 f0 f1 f2 f3 f4).1.2.2.1 = (k0_pay2 (M4.view.read (Elt F) f4) (k0_pay9 (M4.view.read (Elt F) f4))) := by
  unfold prepRun
  dsimp only
  unfold prepRun.sl.H7_1
  refine (View.read_writes_full M7.view _ _ _ _).trans ?_
  rw [View.readAt_full M4.view f4]

/-- What result 3's buffer reads after the body. -/
theorem prep_out8 : M8.view.read (Elt F) (prepRun c M0 h0 M1 h1 M2 h2 M3 h3 M4 h4 M5 h5 M6 h6 M7 h7 M8 h8 f0 f1 f2 f3 f4).1.2.2.2 = (k0_pay3 (k0_pay7 (M3.view.read (Elt F) f3)) (k0_pay9 (M4.view.read (Elt F) f4))) := by
  unfold prepRun
  dsimp only
  unfold prepRun.sl.H8_1
  refine (View.read_writes_full M8.view _ _ _ _).trans ?_
  rw [View.readAt_full M3.view f3, View.readAt_full M4.view f4]

end Reads

section Step
variable (c : Dev nD)
    (M0 : Memref sig .tc .vmem S1x1536 .f32) (h0 : M0.IsWhole)
    (M1 : Memref sig .tc .vmem S1024x1536 .f32) (h1 : M1.IsWhole)
    (M2 : Memref sig .tc .vmem S1024x1024 .f32) (h2 : M2.IsWhole)
    (M3 : Memref sig .tc .vmem S1024x1024 .f32) (h3 : M3.IsWhole)
    (M4 : Memref sig .tc .vmem S1024x1024 .f32) (h4 : M4.IsWhole)
    (M5 : Memref sig .tc .vmem S128x1024 .bf16) (h5 : M5.IsWhole)
    (M6 : Memref sig .tc .vmem S1024x1024 .bf16) (h6 : M6.IsWhole)
    (M7 : Memref sig .tc .vmem S1024x1024 .bf16) (h7 : M7.IsWhole)
    (M8 : Memref sig .tc .vmem S2x128 .f32) (h8 : M8.IsWhole)

/-- One run of the body over what the buffers read. -/
theorem prep_step (X0 : S1x1536.Idx → Elt F .f32) (X1 : S1024x1536.Idx → Elt F .f32) (X2 : S1024x1024.Idx → Elt F .f32) (X3 : S1024x1024.Idx → Elt F .f32) (X4 : S1024x1024.Idx → Elt F .f32) (X5 : S128x1024.Idx → Elt F .bf16) (X6 : S1024x1024.Idx → Elt F .bf16) (X7 : S1024x1024.Idx → Elt F .bf16) (X8 : S2x128.Idx → Elt F .f32) (E : Set ℕ) (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare (kqOf X0 X1 X2) ∗ owns (c : Thread nD τ) M6 fullShare (k0_pay8 X3) ∗ owns (c : Thread nD τ) M7 fullShare (k0_pay2 X4 (k0_pay9 X4)) ∗ owns (c : Thread nD τ) M8 fullShare (k0_pay3 (k0_pay7 X3) (k0_pay9 X4))) -∗ K ⟨⟩))
      ⊢ wp frame (wpE (defs₀ (F := F)) Variants.none c none) E (cc0__prep_body M0 h0 M1 h1 M2 h2 M3 h3 M4 h4 M5 h5 M6 h6 M7 h7 M8 h8) K := by
  rw [owns_pt c M0 h0 X0, owns_pt c M1 h1 X1, owns_pt c M2 h2 X2, owns_pt c M3 h3 X3, owns_pt c M4 h4 X4, owns_pt c M5 h5 X5, owns_pt c M6 h6 X6, owns_pt c M7 h7 X7, owns_pt c M8 h8 X8]
  rw [owns_pt c M5 h5 (kqOf X0 X1 X2), owns_pt c M6 h6 (k0_pay8 X3), owns_pt c M7 h7 (k0_pay2 X4 (k0_pay9 X4)), owns_pt c M8 h8 (k0_pay3 (k0_pay7 X3) (k0_pay9 X4))]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  subst e0 e1 e2 e3 e4 e5 e6 e7 e8
  iapply ((prepRun (F := F) c M0 h0 M1 h1 M2 h2 M3 h3 M4 h4 M5 h5 M6 h6 M7 h7 M8 h8 f0 f1 f2 f3 f4).2 f5 f6 f7 f8 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H0]
  · iexists _; isplitr; swap; (· iexact H0); ipureintro; exact rfl
  isplitl [H1]
  · iexists _; isplitr; swap; (· iexact H1); ipureintro; exact rfl
  isplitl [H2]
  · iexists _; isplitr; swap; (· iexact H2); ipureintro; exact rfl
  isplitl [H3]
  · iexists _; isplitr; swap; (· iexact H3); ipureintro; exact rfl
  isplitl [H4]
  · iexists _; isplitr; swap; (· iexact H4); ipureintro; exact rfl
  isplitl [H5]
  · iexists _; isplitr; swap; (· iexact H5); ipureintro; exact prep_out5 M0 h0 M1 h1 M2 h2 M3 h3 M4 h4 M5 h5 M6 h6 M7 h7 M8 h8 f0 f1 f2 f3 f4
  isplitl [H6]
  · iexists _; isplitr; swap; (· iexact H6); ipureintro; exact prep_out6 M0 h0 M1 h1 M2 h2 M3 h3 M4 h4 M5 h5 M6 h6 M7 h7 M8 h8 f0 f1 f2 f3 f4
  isplitl [H7]
  · iexists _; isplitr; swap; (· iexact H7); ipureintro; exact prep_out7 M0 h0 M1 h1 M2 h2 M3 h3 M4 h4 M5 h5 M6 h6 M7 h7 M8 h8 f0 f1 f2 f3 f4
  iexists _; isplitr; swap; (· iexact H8); ipureintro; exact prep_out8 M0 h0 M1 h1 M2 h2 M3 h3 M4 h4 M5 h5 M6 h6 M7 h7 M8 h8 f0 f1 f2 f3 f4

end Step

variable (V : (c : Dev nD) → (b : Ref sig .tc) → Buf (Elt F) ((c : Thread nD τ).loc b))

/-- The first call's proof data at an entry valuation. -/
def dat (c : Dev nD) : Dat τ (Elt F) Unit ℕ (UR sig nD τ) ℕ cfg0 c where
  A w := V c (Pipeline.arrRef spec0 w)
  after w t := match w with
    | ⟨0, _⟩ => (V c main_v3)
    | ⟨1, _⟩ => (V c main_arg3)
    | ⟨2, _⟩ => (V c main_arg4)
    | ⟨3, _⟩ => (V c main_arg5)
    | ⟨4, _⟩ => (V c main_arg6)
    | ⟨5, _⟩ => (kqOf (V c main_v3) (V c main_arg3) (V c main_arg4))
    | ⟨6, _⟩ => (k0_pay8 (V c main_arg5))
    | ⟨7, _⟩ => (k0_pay2 (V c main_arg6) (k0_pay9 (V c main_arg6)))
    | ⟨8, _⟩ => (k0_pay3 (k0_pay7 (V c main_arg5)) (k0_pay9 (V c main_arg6)))
  Φ _ := Pipeline.scopedRest (Ix := Unit) (Name := ℕ) (U := UR sig nD τ) (Lvl := ℕ) (Val := Elt F) spec0 c
  q _ := fullShare
  owed _ := 0

/-! ## The windows are the whole arrays -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

theorem fetched0 (c : Dev nD) (t : Fin cfg0.N) (d) : (dat V c).before 0 t d = V c main_v3 :=
  ((dat V c).before_in_eq_fetched 0 rfl (fun _ => rfl) (fun _ _ _ => rfl) (fun t' => by
    obtain rfl := fin_N0 t'
    funext y
    refine congrArg (V c main_v3) (?_ : y = (win0_0.blk t0_0).view.emb y)
    blk_ext [idx0]) t d).trans (by
  funext y
  refine congrArg (V c main_v3) (?_ : (win0_0.blk t).view.emb y = y)
  blk_ext [idx0])

theorem fetched1 (c : Dev nD) (t : Fin cfg0.N) (d) : (dat V c).before 1 t d = V c main_arg3 :=
  ((dat V c).before_in_eq_fetched 1 rfl (fun _ => rfl) (fun _ _ _ => rfl) (fun t' => by
    obtain rfl := fin_N0 t'
    funext y
    refine congrArg (V c main_arg3) (?_ : y = (win0_1.blk t0_0).view.emb y)
    blk_ext [idx1]) t d).trans (by
  funext y
  refine congrArg (V c main_arg3) (?_ : (win0_1.blk t).view.emb y = y)
  blk_ext [idx1])

theorem fetched2 (c : Dev nD) (t : Fin cfg0.N) (d) : (dat V c).before 2 t d = V c main_arg4 :=
  ((dat V c).before_in_eq_fetched 2 rfl (fun _ => rfl) (fun _ _ _ => rfl) (fun t' => by
    obtain rfl := fin_N0 t'
    funext y
    refine congrArg (V c main_arg4) (?_ : y = (win0_2.blk t0_0).view.emb y)
    blk_ext [idx2]) t d).trans (by
  funext y
  refine congrArg (V c main_arg4) (?_ : (win0_2.blk t).view.emb y = y)
  blk_ext [idx2])

theorem fetched3 (c : Dev nD) (t : Fin cfg0.N) (d) : (dat V c).before 3 t d = V c main_arg5 :=
  ((dat V c).before_in_eq_fetched 3 rfl (fun _ => rfl) (fun _ _ _ => rfl) (fun t' => by
    obtain rfl := fin_N0 t'
    funext y
    refine congrArg (V c main_arg5) (?_ : y = (win0_3.blk t0_0).view.emb y)
    blk_ext [idx3]) t d).trans (by
  funext y
  refine congrArg (V c main_arg5) (?_ : (win0_3.blk t).view.emb y = y)
  blk_ext [idx3])

theorem fetched4 (c : Dev nD) (t : Fin cfg0.N) (d) : (dat V c).before 4 t d = V c main_arg6 :=
  ((dat V c).before_in_eq_fetched 4 rfl (fun _ => rfl) (fun _ _ _ => rfl) (fun t' => by
    obtain rfl := fin_N0 t'
    funext y
    refine congrArg (V c main_arg6) (?_ : y = (win0_4.blk t0_0).view.emb y)
    blk_ext [idx4]) t d).trans (by
  funext y
  refine congrArg (V c main_arg6) (?_ : (win0_4.blk t).view.emb y = y)
  blk_ext [idx4])

theorem left0 (c : Dev nD) (t : Fin cfg0.N) : (dat V c).after 0 t = (V c main_v3) := rfl
theorem left1 (c : Dev nD) (t : Fin cfg0.N) : (dat V c).after 1 t = (V c main_arg3) := rfl
theorem left2 (c : Dev nD) (t : Fin cfg0.N) : (dat V c).after 2 t = (V c main_arg4) := rfl
theorem left3 (c : Dev nD) (t : Fin cfg0.N) : (dat V c).after 3 t = (V c main_arg5) := rfl
theorem left4 (c : Dev nD) (t : Fin cfg0.N) : (dat V c).after 4 t = (V c main_arg6) := rfl
theorem left5 (c : Dev nD) (t : Fin cfg0.N) : (dat V c).after 5 t = (kqOf (V c main_v3) (V c main_arg3) (V c main_arg4)) := rfl
theorem left6 (c : Dev nD) (t : Fin cfg0.N) : (dat V c).after 6 t = (k0_pay8 (V c main_arg5)) := rfl
theorem left7 (c : Dev nD) (t : Fin cfg0.N) : (dat V c).after 7 t = (k0_pay2 (V c main_arg6) (k0_pay9 (V c main_arg6))) := rfl
theorem left8 (c : Dev nD) (t : Fin cfg0.N) : (dat V c).after 8 t = (k0_pay3 (k0_pay7 (V c main_arg5)) (k0_pay9 (V c main_arg6))) := rfl

/-- The body obligation: the nine buffers through one run of the body, the rest carried along. -/
theorem body_obligation (c : Dev nD) : BodyObligation (dat V c) (defs₀ (F := F)) Variants.none () Set.univ := fun t => by
  rw [bigSep_W0, bigSep_W0]
  rw [show (dat V c).Φ t.succ = (dat V c).Φ t.castSucc from rfl,
    show (dat V c).owesAt () t.succ = (dat V c).owesAt () t.castSucc from rfl]
  simp only [fetched0, fetched1, fetched2, fetched3, fetched4, left0, left1, left2, left3, left4, left5, left6, left7, left8]
  rw [show defs₀ (F := F) Proc.tc 0 (t, cfg0.slots t) = bodyAt0 t from rfl]
  iintro ⟨HΦ, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  iapply (prep_step (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) _ _ _ _ _ _ _ _ _ Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iintro ⟨W0, W1, W2, W3, W4, W5, W6, W7, W8⟩
  isplitl [HΦ]; · iexact HΦ
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  iexact W8

/-! ## The results' arrays after the run -/

theorem arr_out5 (c : Dev nD) : (dat V c).arrAt 5 cfg0.N = (kqOf (V c main_v3) (V c main_arg3) (V c main_arg4)) := by
  refine (dat V c).arrAt_eq_of_covers 5 _ (by decide +kernel) fun t hf y => ?_
  refine congrArg ((kqOf (V c main_v3) (V c main_arg3) (V c main_arg4))) (?_ : y = (win0_5.blk t).view.emb y)
  blk_ext [idx5]

theorem arr_out6 (c : Dev nD) : (dat V c).arrAt 6 cfg0.N = (k0_pay8 (V c main_arg5)) := by
  refine (dat V c).arrAt_eq_of_covers 6 _ (by decide +kernel) fun t hf y => ?_
  refine congrArg ((k0_pay8 (V c main_arg5))) (?_ : y = (win0_6.blk t).view.emb y)
  blk_ext [idx6]

theorem arr_out7 (c : Dev nD) : (dat V c).arrAt 7 cfg0.N = (k0_pay2 (V c main_arg6) (k0_pay9 (V c main_arg6))) := by
  refine (dat V c).arrAt_eq_of_covers 7 _ (by decide +kernel) fun t hf y => ?_
  refine congrArg ((k0_pay2 (V c main_arg6) (k0_pay9 (V c main_arg6)))) (?_ : y = (win0_7.blk t).view.emb y)
  blk_ext [idx7]

theorem arr_out8 (c : Dev nD) : (dat V c).arrAt 8 cfg0.N = (k0_pay3 (k0_pay7 (V c main_arg5)) (k0_pay9 (V c main_arg6))) := by
  refine (dat V c).arrAt_eq_of_covers 8 _ (by decide +kernel) fun t hf y => ?_
  refine congrArg ((k0_pay3 (k0_pay7 (V c main_arg5)) (k0_pay9 (V c main_arg6)))) (?_ : y = (win0_8.blk t).view.emb y)
  blk_ext [idx8]

end Cert.KernelIdeal.Prep

end
-- ==== Proof.Regs.lean ====
/-
  The two calls as segments of the run: each entered with every array of the device at a valuation and left with them at
  the valuation after it, and the whole run, with what the result's array holds at the end.
-/
module

public import proofs.«01_k».proof.Proof.MegaPipe
public import proofs.«01_k».proof.Proof.PrepPipe
public import proofs.«01_k».proof.Proof.Gen.KernelIdeal.Regions
public import Idealize.ShloMosaic.Lib.Pipeline.FrameTail

@[expose] public section

set_option maxRecDepth 16384

noncomputable section

namespace Cert.KernelIdeal.Whole

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation HostSeg RegionSeg Seg afterRegion)

variable {F : FTy → Type} [FloatOps F] [Named F]

local notation "𝕄" => MT nD τ sig Unit (Elt F) ℕ (UR sig nD τ) ℕ

variable (m : (ℓ : Loc nD τ sig) → Buf (Elt F) ℓ)

/-- The arrays at the first call's entry: the launch contents through the host's operations. -/
def Va (c : Dev nD) : Valuation τ sig (Elt F) := StableHlo.after hostOps0 (V0 m c)
/-- The first call's proof data there. -/
abbrev da (c : Dev nD) := Prep.dat (F := F) (fun c b => Va m c b) c
/-- The arrays between the calls. -/
def Vb (c : Dev nD) : Valuation τ sig (Elt F) := afterRegion (da m c) (Va m c)
/-- The second call's proof data there. -/
abbrev db (c : Dev nD) := Mega.dat (F := F) (fun c b => Vb m c b) c
/-- The arrays at the end. -/
def Vc (c : Dev nD) : Valuation τ sig (Elt F) := afterRegion (db m c) (Vb m c)

/-- The proof data of both calls. -/
def pdats : (p : Fin 2) → (c : Dev nD) → Dat τ (Elt F) Unit ℕ (UR sig nD τ) ℕ (cfgs p) c
  | ⟨0, _⟩ => fun c => da m c
  | ⟨1, _⟩ => fun c => db m c

abbrev L : GSem nD τ sig → Finset Unit := fun _ => ∅
abbrev lv : GSem nD τ sig → Unit → ℕ := fun _ _ => 0

/-- A core owing nothing. -/
abbrev idle (c : Dev nD) : sProp 𝕄 := iprop(∃ W, owes (c : Thread nD τ) (0 : CellTallies nD τ sig Unit) W)

set_option backward.isDefEq.respectTransparency.types false in
/-- A call as a segment, given that its invariant starts from and ends at the buffers it does not stage. -/
def reg (p : Fin 2) (kit : Pipeline.LaunchFacts (nD := nD) (τ := τ) cfgs p) (V : (c : Dev nD) → Valuation τ sig (Elt F))
    (hbody : ∀ c, BodyObligation (pdats m p c) (defs₀ (F := F)) Variants.none () Set.univ)
    (hshare : ∀ c w, (pdats m p c).share w = fullShare) (howed : ∀ c t, (pdats m p c).owed t = 0) (hrec : ∀ c t, (pdats m p c).recorded t = Set.univ)
    (hA : ∀ c w, (pdats m p c).A w = V c (Proc.devRef .tc (Pipeline.arrRef (cfgs p).spec w)))
    (hin : ∀ c, Pipeline.scopedRest (Ix := Unit) (Name := ℕ) (U := UR sig nD τ) (Lvl := ℕ) (Val := Elt F) (cfgs p).spec c ⊢ (pdats m p c).Φ 0)
    (hout : ∀ c, (pdats m p c).Φ (Fin.last (cfgs p).N) ⊢ Pipeline.scopedRest (Ix := Unit) (Name := ℕ) (U := UR sig nD τ) (Lvl := ℕ) (Val := Elt F) (cfgs p).spec c) :
    RegionSeg (pcfgs (F := F)) adm (pdats m) () defs₀ Variants.none L lv p where
  win := (kit.toP (Val := Elt F)).win.to₀
  block_pos := (kit.toP (Val := Elt F)).block_pos
  stage_whole := (kit.toP (Val := Elt F)).stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ idle c)
  post c := iprop(StableHlo.held (c : Thread nD τ) (Pipeline.ucRefs τ sig) (afterRegion (pdats m p c) (V c)) ∗ idle c)
  X _ := BI.emp
  Y _ := BI.emp
  Z c := Pipeline.unscopedRest (Ix := Unit) (Name := ℕ) (U := UR sig nD τ) (Lvl := ℕ) (cfgs p).spec c (fun b => V c b)
  hentry c := by
    rw [Pipeline.ownSems0_none, ← Pipeline.unscopedBufs_held (Ix := Unit) (Name := ℕ) (U := UR sig nD τ) (Lvl := ℕ) c (V c)]
    have hsplit := Pipeline.arrays_of_unscopedBufs (p := p) (pcfgs (F := F)) adm (pdats m) (kit.toP (Val := Elt F)).win (kit.toP (Val := Elt F)).arr_whole c
      (hshare c) (fun b => V c b) (fun w => hA c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec]; trivial)
      iexact HO
    isplitr; · iempintro
    iexact Hrest
  hin c := by
    iintro ⟨-, -, Hr⟩
    iapply (hin c); iexact Hr
  hout c := (hout c).trans (by
    rw [Pipeline.ownSems0_none]
    iintro Hr
    isplitr; · iempintro
    isplitr; · iempintro
    iexact Hr)
  hexit c := by
    have hjoin := Pipeline.unscopedBufs_of_arrays (p := p) (pcfgs (F := F)) adm (Ix := Unit) (Name := ℕ) (U := UR sig nD τ) (Lvl := ℕ) (kit.toP (Val := Elt F)).win (kit.toP (Val := Elt F)).arr_whole c
      (pdats m) (hshare c) (fun b => V c b) (fun b => afterRegion (pdats m p c) (V c) b) ((pdats m p c).arrAt · (cfgs p).N)
      (fun w => (Pipeline.afterRegion_arr (pdats m p c) (V c) kit.win.arr_inj w).symm)
      (fun b hb => Pipeline.afterRegion_of_not_arr (pdats m p c) (V c) fun w h => hb (h ▸ Finset.mem_image.mpr ⟨w, Finset.mem_univ _, rfl⟩))
    rw [← Pipeline.unscopedBufs_held (Ix := Unit) (Name := ℕ) (U := UR sig nD τ) (Lvl := ℕ) c (afterRegion (pdats m p c) (V c))]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W, -, HO⟩; iexists W; iexact HO

/-- The second call's invariant starts from any contents of its row buffers. -/
theorem mega_in (c : Dev nD) : Pipeline.scopedRest (Ix := Unit) (Name := ℕ) (U := UR sig nD τ) (Lvl := ℕ) (Val := Elt F) spec1 c ⊢ (db m c).Φ 0 := by
  rw [scopedRest1_eq, show (db m c).Φ 0 = Mega.Inv (fun c b => Vb m c b) c 0 from rfl]
  unfold Mega.Inv Mega.rest9
  iintro ⟨A0, A1, A2, A3, A4, A5, A6, A7, A8, ⟨%R, HR⟩, ⟨%Q, HQ⟩, ⟨%H, HH⟩, ⟨%C, HC⟩⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  iexists R; iexists Q; iexists H; iexists C
  rw [owns_whole, owns_whole, owns_whole, owns_whole]
  isplitr; · ipureintro; exact Mega.good_zero _ _ _ _
  isplitl [HR]; · iexact HR
  isplitl [HQ]; · iexact HQ
  isplitl [HH]; · iexact HH
  iexact HC

/-- And ends with its row buffers at some contents. -/
theorem mega_out (c : Dev nD) : (db m c).Φ (Fin.last cfg1.N) ⊢ Pipeline.scopedRest (Ix := Unit) (Name := ℕ) (U := UR sig nD τ) (Lvl := ℕ) (Val := Elt F) spec1 c := by
  rw [scopedRest1_eq, show (db m c).Φ (Fin.last cfg1.N) = Mega.Inv (fun c b => Vb m c b) c cfg1.N from rfl]
  unfold Mega.Inv Mega.rest9
  iintro ⟨⟨A0, A1, A2, A3, A4, A5, A6, A7, A8⟩, %R, %Q, %H, %C, -, HR, HQ, HH, HC⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [HR]; · iexists R; rw [← owns_whole]; iexact HR
  isplitl [HQ]; · iexists Q; rw [← owns_whole]; iexact HQ
  isplitl [HH]; · iexists H; rw [← owns_whole]; iexact HH
  iexists C; rw [← owns_whole]; iexact HC

/-- The first call's segment. -/
def R0 : RegionSeg (pcfgs (F := F)) adm (pdats m) () defs₀ Variants.none L lv 0 :=
  reg m 0 launch0 (Va m) (fun c => Prep.body_obligation (fun c b => Va m c b) c) (fun c => (da m c).share_full fun _ => rfl) (fun _ _ => rfl) (fun _ _ => rfl) (fun _ _ => rfl)
    (fun _ => .rfl) (fun _ => .rfl)
/-- The second call's segment. -/
def R1 : RegionSeg (pcfgs (F := F)) adm (pdats m) () defs₀ Variants.none L lv 1 :=
  reg m 1 launch1 (Vb m) (fun c => Mega.body_obligation (fun c b => Vb m c b) c) (fun c => (db m c).share_full fun _ => rfl) (fun _ _ => rfl) (fun _ _ => rfl) (fun _ _ => rfl)
    (mega_in m) (mega_out m)

set_option backward.isDefEq.respectTransparency.types false in
/-- THE RUN: every execution ends, with every array of the device at the last valuation and every counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = Vc m c b) ∧ r.2.sem = fun _ => 0) := by
  refine Pipeline.θ_run_regions_kit_dev_sems (pcfgs (F := F)) adm (pdats m) () cellOf_inj emb₁ defs₀ Variants.none L lv m ρ main
    (segs m Variants.none L lv (fun _ c => idle c) () (pdats m) (R0 m) (R1 m))
    (fun c Q => by
      rewrite [main_chain c, Seg.run_eq_chain,
        show (segs m Variants.none L lv (fun _ c => idle c) () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ idle c))
    (Tₙ := fun c => StableHlo.held (c : Thread nD τ) (Pipeline.ucRefs τ sig) (Vc m c))
    (hch := fun c => ⟨.rfl, .rfl, .rfl, .rfl⟩)
    (hinit := ?_) (QY := fun c s => ∀ b ∈ Pipeline.ucRefs τ sig, s.mem ((c : Thread nD τ).1, b) = Vc m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (Vc m c) s') $$ [Hh HSI]
    · isplitl [Hh] <;> iassumption
    imodintro; iexact Hr

/-! ## What the last valuation holds -/

theorem Va_of (c : Dev nD) (r : Ref sig .tc) (h : r ∉ hostOps0_W) : Va m c r = m ((c : Thread nD τ).loc r) := V1_of m c r h

theorem Vb_arr (c : Dev nD) (w : Fin 9) : Vb m c (Pipeline.arrRef spec0 w) = (da m c).arrAt w cfg0.N :=
  Pipeline.afterRegion_arr (da m c) (Va m c) launch0.win.arr_inj w
theorem Vb_ne (c : Dev nD) (r : Ref sig .tc) (h : ∀ w : Fin 9, r ≠ Pipeline.arrRef spec0 w) : Vb m c r = Va m c r :=
  Pipeline.afterRegion_of_not_arr (da m c) (Va m c) h
theorem Vc_arr (c : Dev nD) (w : Fin 7) : Vc m c (Pipeline.arrRef spec1 w) = (db m c).arrAt w cfg1.N :=
  Pipeline.afterRegion_arr (db m c) (Vb m c) launch1.win.arr_inj w
theorem Vc_ne (c : Dev nD) (r : Ref sig .tc) (h : ∀ w : Fin 7, r ≠ Pipeline.arrRef spec1 w) : Vc m c r = Vb m c r :=
  Pipeline.afterRegion_of_not_arr (db m c) (Vb m c) h

/-- An operand of the first call keeps its contents through it. -/
theorem Vb_in (c : Dev nD) (w : Fin 9) (h : (cfg0.win w).isOut = false) : Vb m c (Pipeline.arrRef spec0 w) = Va m c (Pipeline.arrRef spec0 w) :=
  (Vb_arr m c w).trans ((da m c).arrAt_in w h _)
/-- An operand of the second call keeps its contents through it. -/
theorem Vc_in (c : Dev nD) (w : Fin 7) (h : (cfg1.win w).isOut = false) : Vc m c (Pipeline.arrRef spec1 w) = Vb m c (Pipeline.arrRef spec1 w) :=
  (Vc_arr m c w).trans ((db m c).arrAt_in w h _)

theorem Vc_arg0 (c : Dev nD) : Vc m c main_arg0 = m ((c : Thread nD τ).loc main_arg0) :=
  (Vc_ne m c main_arg0 (by decide)).trans ((Vb_ne m c main_arg0 (by decide)).trans (Va_of m c main_arg0 (by decide)))
theorem Vc_arg1 (c : Dev nD) : Vc m c main_arg1 = m ((c : Thread nD τ).loc main_arg1) :=
  (Vc_ne m c main_arg1 (by decide)).trans ((Vb_ne m c main_arg1 (by decide)).trans (Va_of m c main_arg1 (by decide)))
theorem Vc_arg2 (c : Dev nD) : Vc m c main_arg2 = m ((c : Thread nD τ).loc main_arg2) :=
  (Vc_in m c 5 rfl).trans ((Vb_ne m c main_arg2 (by decide)).trans (Va_of m c main_arg2 (by decide)))
theorem Vc_arg3 (c : Dev nD) : Vc m c main_arg3 = m ((c : Thread nD τ).loc main_arg3) :=
  (Vc_ne m c main_arg3 (by decide)).trans ((Vb_in m c 1 rfl).trans (Va_of m c main_arg3 (by decide)))
theorem Vc_arg4 (c : Dev nD) : Vc m c main_arg4 = m ((c : Thread nD τ).loc main_arg4) :=
  (Vc_ne m c main_arg4 (by decide)).trans ((Vb_in m c 2 rfl).trans (Va_of m c main_arg4 (by decide)))
theorem Vc_arg5 (c : Dev nD) : Vc m c main_arg5 = m ((c : Thread nD τ).loc main_arg5) :=
  (Vc_ne m c main_arg5 (by decide)).trans ((Vb_in m c 3 rfl).trans (Va_of m c main_arg5 (by decide)))
theorem Vc_arg6 (c : Dev nD) : Vc m c main_arg6 = m ((c : Thread nD τ).loc main_arg6) :=
  (Vc_ne m c main_arg6 (by decide)).trans ((Vb_in m c 4 rfl).trans (Va_of m c main_arg6 (by decide)))
theorem Vc_arg7 (c : Dev nD) : Vc m c main_arg7 = m ((c : Thread nD τ).loc main_arg7) :=
  (Vc_ne m c main_arg7 (by decide)).trans ((Vb_ne m c main_arg7 (by decide)).trans (Va_of m c main_arg7 (by decide)))

/-- What the second call reads, as the first call and the launch left it. -/
def insOf (c : Dev nD) : Mega.Ins F where
  kq := Prep.kqOf (Va m c main_v3) (m ((c : Thread nD τ).loc main_arg3)) (m ((c : Thread nD τ).loc main_arg4))
  wv := k0_pay8 (m ((c : Thread nD τ).loc main_arg5))
  wo := k0_pay2 (m ((c : Thread nD τ).loc main_arg6)) (k0_pay9 (m ((c : Thread nD τ).loc main_arg6)))
  sc := k0_pay3 (k0_pay7 (m ((c : Thread nD τ).loc main_arg5))) (k0_pay9 (m ((c : Thread nD τ).loc main_arg6)))
  x := m ((c : Thread nD τ).loc main_arg2)

theorem ins_eq (c : Dev nD) : Mega.ins (fun c b => Vb m c b) c = insOf m c := by
  have a3 : Va m c main_arg3 = m ((c : Thread nD τ).loc main_arg3) := Va_of m c main_arg3 (by decide)
  have a4 : Va m c main_arg4 = m ((c : Thread nD τ).loc main_arg4) := Va_of m c main_arg4 (by decide)
  have a5 : Va m c main_arg5 = m ((c : Thread nD τ).loc main_arg5) := Va_of m c main_arg5 (by decide)
  have a6 : Va m c main_arg6 = m ((c : Thread nD τ).loc main_arg6) := Va_of m c main_arg6 (by decide)
  unfold Mega.ins insOf
  have a2 : Vb m c main_arg2 = m ((c : Thread nD τ).loc main_arg2) := (Vb_ne m c main_arg2 (by decide)).trans (Va_of m c main_arg2 (by decide))
  dsimp only; rw [a2]
  congr 1
  · exact (Vb_arr m c 5).trans ((Prep.arr_out5 _ c).trans (by rw [a3, a4]))
  · exact (Vb_arr m c 6).trans ((Prep.arr_out6 _ c).trans (by rw [a5]))
  · exact (Vb_arr m c 7).trans ((Prep.arr_out7 _ c).trans (by rw [a6]))
  · exact (Vb_arr m c 8).trans ((Prep.arr_out8 _ c).trans (by rw [a5, a6]))

/-- The result's array at the end. -/
theorem Vc_res (c : Dev nD) : Vc m c main_v6 = Mega.outV (insOf m c) :=
  (Vc_arr m c 6).trans ((Mega.arr_out _ c).trans (by rw [ins_eq]))

theorem mem_uc {b : Ref sig .tc} (hb : b.isScoped = false) : (Proc.devRef .tc b : DevRef τ sig) ∈ Pipeline.ucRefs τ sig :=
  Pipeline.devRef_mem_ucRefs hb

/-- THE RUN, read: the result's array at its value, every argument as launched, every counter at zero. -/
theorem run_value (ρ : Dev nD → PrngReg) :
    θ_run defs (onTc (τ := τ) (main (F := F))) ⟨m, fun _ => 0, ρ⟩ (fun r => (∀ c : Dev nD,
      r.2.mem ((c.tc : Thread nD τ).loc main_v6) = Mega.outV (insOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (run_all m ρ).mono fun r h => ⟨fun c => ⟨(h.1 c _ (mem_uc rfl)).trans (Vc_res m c),
    (h.1 c _ (mem_uc rfl)).trans (Vc_arg0 m c), (h.1 c _ (mem_uc rfl)).trans (Vc_arg1 m c), (h.1 c _ (mem_uc rfl)).trans (Vc_arg2 m c),
    (h.1 c _ (mem_uc rfl)).trans (Vc_arg3 m c), (h.1 c _ (mem_uc rfl)).trans (Vc_arg4 m c), (h.1 c _ (mem_uc rfl)).trans (Vc_arg5 m c),
    (h.1 c _ (mem_uc rfl)).trans (Vc_arg6 m c), (h.1 c _ (mem_uc rfl)).trans (Vc_arg7 m c)⟩, h.2⟩

end Cert.KernelIdeal.Whole

end
-- ==== Proof.Frames.lean ====
/-
  The frame claims of the three programs and the claim on the named constant.
-/
module

public import proofs.«01_k».proof.Defs
public import proofs.«01_k».proof.Proof.Regs
public import proofs.«01_k».proof.Proof.Bit.Regs
public import proofs.«01_k».proof.Proof.Gen.ReferenceIdeal.Run

@[expose] public section

noncomputable section

namespace Cert.Frames

open Idealize.ShloMosaic Idealize.ShloMosaic.TcCoe Idealize.SL.Sem

/-- The kernel at its float words runs and keeps its arguments. -/
theorem kernel : Cert.quiescent_Kernel := fun m ρ _ =>
  (θ_run Cert.Kernel.defs _ _).mono (fun _ h => And.intro (fun c => (h.1 c).2) h.2) (Cert.Kernel.Whole.run_value m ρ)

/-- The idealized kernel runs and keeps its arguments. -/
theorem ideal : Cert.quiescent_KernelIdeal := fun m ρ _ =>
  (θ_run Cert.KernelIdeal.defs _ _).mono (fun _ h => And.intro (fun c => (h.1 c).2) h.2) (Cert.KernelIdeal.Whole.run_value m ρ)

/-- The reference runs and keeps its arguments; it has no semaphore. -/
theorem reference : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run m ρ)

/-- The constant named is the rounded 1/127. -/
theorem preserves : Cert.preserves_Kernel_KernelIdeal :=
  IdealRules.named_const.statement Cert.KernelIdeal.κ "inv127" .f32 0x3C010204#32 ((127⁻¹ : ℝ) : EReal) rfl

end Cert.Frames

end
-- ==== Proof.Eq.RealOps.lean ====
/-
  The extended-real operations at real operands: each is the real operation, so a tower of them over real inputs is
  one real number. The constants of the two programs are read here as real numbers as well.
-/
module

public import Idealize.ShloMosaic.Lib.Pointwise

@[expose] public section

set_option maxRecDepth 16384

noncomputable section

namespace Cert.Eq

open Idealize.ShloMosaic

/-! ## Constants -/

/-- The small number that keeps the quantisation scales away from zero, as the programs' bit pattern reads. -/
def ep : ℝ := 11258999 * (2 ^ 50)⁻¹
/-- The small number under the square root of the norm, as the programs' bit pattern reads. -/
def e5 : ℝ := 10995116 * (2 ^ 40)⁻¹

/-- The scale guard is positive. -/
theorem ep_pos : 0 < ep := by unfold ep; positivity
/-- The norm guard is positive. -/
theorem e5_pos : 0 < e5 := by unfold e5; positivity

/-- The bits of the scale guard. -/
theorem bits_ep : Ideal.ofBits .f32 0x322BCC77#32 = ((ep : ℝ) : EReal) := by
  simp [Ideal.ofBits, Ideal.ieee, ep, -EReal.coe_mul]
/-- The bits of the norm's guard. -/
theorem bits_e5 : Ideal.ofBits .f32 0x3727C5AC#32 = ((e5 : ℝ) : EReal) := by
  simp [Ideal.ofBits, Ideal.ieee, e5, -EReal.coe_mul]
/-- The bits of 127. -/
theorem bits_127 : Ideal.ofBits .f32 0x42FE0000#32 = ((127 : ℝ) : EReal) := by
  simp [Ideal.ofBits, Ideal.ieee, -EReal.coe_mul]; norm_num
/-- The bits of -128. -/
theorem bits_neg128 : Ideal.ofBits .f32 0xC3000000#32 = ((-128 : ℝ) : EReal) := by
  simp [Ideal.ofBits, Ideal.ieee, -EReal.coe_mul]; norm_num
/-- The bits of -1. -/
theorem bits_neg1 : Ideal.ofBits .f32 0xBF800000#32 = ((-1 : ℝ) : EReal) := by
  simp [Ideal.ofBits, Ideal.ieee, -EReal.coe_mul]; norm_num
/-- The bits of 1. -/
theorem bits_one : Ideal.ofBits .f32 0x3F800000#32 = ((1 : ℝ) : EReal) := by
  simp [Ideal.ofBits, Ideal.ieee, -EReal.coe_mul]; norm_num
/-- The bits of the number of entries of a square weight. -/
theorem bits_sq : Ideal.ofBits .f32 0x49800000#32 = ((1048576 : ℝ) : EReal) := by
  simp [Ideal.ofBits, Ideal.ieee, -EReal.coe_mul]; norm_num
/-- The bits of the number of entries of the query weight. -/
theorem bits_rect : Ideal.ofBits .f32 0x49C00000#32 = ((1572864 : ℝ) : EReal) := by
  simp [Ideal.ofBits, Ideal.ieee, -EReal.coe_mul]; norm_num
/-- The bits of 1024. -/
theorem bits_1024 : Ideal.ofBits .f32 0x44800000#32 = ((1024 : ℝ) : EReal) := by
  simp [Ideal.ofBits, Ideal.ieee, -EReal.coe_mul]; norm_num
/-- The bits of 1/32. -/
theorem bits_32nd : Ideal.ofBits .f32 0x3D000000#32 = ((1 / 32 : ℝ) : EReal) := by
  simp [Ideal.ofBits, Ideal.ieee, -EReal.coe_mul]; norm_num
/-- The bits of minus infinity. -/
theorem bits_ninf : Ideal.ofBits .f32 0xFF800000#32 = ⊥ := by
  simp [Ideal.ofBits, Ideal.ieee]
/-! ## Operations -/

/-- Rounding to nearest, ties to even, as a real function. -/
def rnd (x : ℝ) : ℝ := ((Ideal.roundHalfEven x : ℤ) : ℝ)

/-- The largest of finitely many reals. -/
def mx {n : ℕ} [NeZero n] (f : Fin n → ℝ) : ℝ := Finset.univ.sup' ⟨0, Finset.mem_univ 0⟩ f

/-- One, as a real. -/
theorem one_coe : (1 : EReal) = ((1 : ℝ) : EReal) := EReal.coe_one.symm

/-- A quotient of reals, the divisor not zero. -/
theorem div_coe {a b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- A real rounded. -/
theorem rnd_coe (a : ℝ) : Ideal.liftRound Ideal.roundHalfEven (a : EReal) = ((rnd a : ℝ) : EReal) := rfl

/-- A maximum of reals. -/
theorem max_coe (a b : ℝ) : max (a : EReal) (b : EReal) = ((max a b : ℝ) : EReal) := (EReal.coe_strictMono.monotone.map_max (a := a) (b := b)).symm
/-- The absolute value of a real. -/
theorem absf_coe (a : ℝ) : FloatOps.absf (F := Ideal) (φ := .f32) (a : EReal) = ((|a| : ℝ) : EReal) := by
  show max (a : EReal) (-(a : EReal)) = _
  rw [← EReal.coe_neg, max_coe]
  rfl

/-- A minimum of reals. -/
theorem min_coe (a b : ℝ) : min (a : EReal) (b : EReal) = ((min a b : ℝ) : EReal) := (EReal.coe_strictMono.monotone.map_min (a := a) (b := b)).symm
/-- A product of reals. -/
theorem mul_coe (a b : ℝ) : (a : EReal) * (b : EReal) = ((a * b : ℝ) : EReal) := (EReal.coe_mul a b).symm
/-- A sum of two reals. -/
theorem add_coe (a b : ℝ) : (a : EReal) + (b : EReal) = ((a + b : ℝ) : EReal) := (EReal.coe_add a b).symm
/-- A difference of reals. -/
theorem sub_coe (a b : ℝ) : (a : EReal) - (b : EReal) = ((a - b : ℝ) : EReal) := (EReal.coe_sub a b).symm

/-- The exponential of a real. -/
theorem exp_coe (a : ℝ) : Ideal.exp (a : EReal) = ((Real.exp a : ℝ) : EReal) := rfl

/-- The logarithm of a positive real. -/
theorem log_coe {a : ℝ} (h : 0 < a) : Ideal.log (a : EReal) = ((Real.log a : ℝ) : EReal) := by
  show (if a ≤ 0 then (⊥ : EReal) else ((Real.log a : ℝ) : EReal)) = _
  rw [if_neg (not_le.2 h)]

/-- The inverse square root of a positive real. -/
theorem rsqrt_coe {a : ℝ} (h : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.2 h.le), if_neg h.ne']

/-- A finite sum of reals. -/
theorem sum_coe {ι : Type} [Fintype ι] (f : ι → ℝ) : ∑ i, ((f i : ℝ) : EReal) = ((∑ i, f i : ℝ) : EReal) := by
  classical
  refine Finset.induction_on (Finset.univ : Finset ι) (by simp) fun a s ha ih => ?_
  rw [Finset.sum_insert ha, Finset.sum_insert ha, ih, EReal.coe_add]

/-- Folding the larger of two from `-∞` over real values gives the largest of them. -/
theorem fold_coe {n : ℕ} [NeZero n] (f : Fin n → ℝ) :
    Finset.fold max (Ideal.ofBits .f32 0xFF800000#32) (fun k => ((f k : ℝ) : EReal)) Finset.univ
      = ((mx f : ℝ) : EReal) := by
  rw [bits_ninf]
  refine le_antisymm ?_ ?_
  · rw [Finset.fold_max_le]
    exact ⟨bot_le, fun k _ => EReal.coe_le_coe_iff.2 (Finset.le_sup' f (Finset.mem_univ k))⟩
  · obtain ⟨k, _, hk⟩ := Finset.exists_mem_eq_sup' (⟨0, Finset.mem_univ 0⟩ : (Finset.univ : Finset (Fin n)).Nonempty) f
    rw [Finset.le_fold_max]
    exact Or.inr ⟨k, Finset.mem_univ k, le_of_eq (congrArg _ hk)⟩

/-- A maximum with minus infinity is the other number. -/
theorem max_ninf (a : ℝ) : max (Ideal.ofBits .f32 0xFF800000#32) (a : EReal) = (a : EReal) := by
  rw [bits_ninf]; exact max_eq_right bot_le

/-- A maximum with the guard is positive. -/
theorem max_ep_pos (a : ℝ) : 0 < max ep a := lt_max_of_lt_left ep_pos
/-- A maximum with the guard is not zero. -/
theorem max_ep_ne (a : ℝ) : max ep a ≠ 0 := (max_ep_pos a).ne'

end Cert.Eq
-- ==== Proof.Eq.Pre.lean ====
/-
  What the precondition says of the arguments: the norm's weight is one.
-/
module

public import proofs.«01_k».proof.Pre_unit_norm
public import proofs.«01_k».proof.Proof.Eq.RealOps
public import Idealize.ShloMosaic.Lib.ReduceAll
public import Idealize.ShloMosaic.Lib.Affine

@[expose] public section

set_option maxRecDepth 16384

noncomputable section

namespace Cert.Eq

open Idealize.ShloMosaic Cert.Pre_unit_norm

/-- An array of no axes has one index. -/
instance : Subsingleton S_.Idx := ⟨fun _ _ => funext fun i => i.elim0⟩

/-- A bit made from a decision is set when the decision holds. -/
theorem of_ofBool {p : Prop} [Decidable p] (h : BitVec.ofBool (decide p) = 1#1) : p := by
  by_contra hp
  rw [decide_eq_false hp] at h
  exact absurd h (by decide)

variable {s : Shape} {axes : List (Fin s.rank)}

/-- An array found equal to one everywhere is one everywhere. -/
theorem all_one (x : FVec Ideal s .f32) (hb : S_.BroadcastsInDim s (![] : Fin 0 → Fin s.rank))
    (hr : s.ReducesTo axes S_) (hu : 0 < S_.numel) (init : IVec S_ 1) (j : S_.Idx)
    (e : Host.reduce IntOp.andi (cmpf (F := Ideal) .oeq x
      (broadcastInDim s ![] hb (constant (F := Ideal) S_ .f32 0x3F800000#32))) init hr hu j = 1#1) (i : s.Idx) :
    x i = 1 := by
  have h := Host.reduce_andi_all _ init hr hu j e i
  have h1 : BitVec.ofBool (decide (x i = Ideal.ofBits .f32 0x3F800000#32)) = 1#1 := h
  rw [bits_one, EReal.coe_one] at h1
  exact of_ofBool h1

variable [Facts] {a0 a1 : FVec Ideal S4x3x64 .f32} {a2 : FVec Ideal S4x8192x1024 .f32}
  {a3 : FVec Ideal S1024x1536 .f32} {a4 a5 a6 : FVec Ideal S1024x1024 .f32} {a7 : FVec Ideal S1024 .f32}

/-- The precondition, read. -/
theorem pre_reads (h : fn (F := Ideal) a0 a1 a2 a3 a4 a5 a6 a7 = fun _ => 1#1) (i : S1024.Idx) : a7 i = 1 :=
  all_one _ _ _ _ _ _ (congrFun h (Shape.Idx.first Facts.h_S_)) i

end Cert.Eq
-- ==== Proof.Eq.Query.lean ====
/-
  The query both programs form from the two register arguments.
-/
module

public import proofs.«01_k».proof.Proof.Gen.ReferenceIdeal.Read
public import proofs.«01_k».proof.Proof.Regs
public import Idealize.ShloMosaic.Lib.Pointwise

@[expose] public section

set_option maxRecDepth 16384

noncomputable section

namespace Cert.Eq

open Idealize.ShloMosaic Idealize.ShloMosaic.TcCoe Cert.ReferenceIdeal.Read

/-- The query the kernel is given is the reference's, laid out in one row. -/
theorem query_eq (m : (ℓ : Loc Cert.KernelIdeal.nD Cert.KernelIdeal.τ Cert.KernelIdeal.sig) → Buf (Elt Ideal) ℓ)
    (c : Dev Cert.KernelIdeal.nD) (k : Fin 1536) :
    Cert.KernelIdeal.Whole.Va m c Cert.KernelIdeal.main_v3 (ix2 0 k)
      = val_main_v3 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix1 k) := by
  have h : Cert.KernelIdeal.Whole.Va m c Cert.KernelIdeal.main_v3
      = shapeCast Cert.KernelIdeal.S1x1536 (val_main_v2 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) Cert.KernelIdeal.Gen.shapeCasts_S4x3x64x2_S1x1536 := by
    rfl
  rw [h, val_main_v3_apply]
  refine shapeCast_apply _ _ (ix2 0 k) (idx_main_v3 (ix1 k)) ?_
  rewrite [Shape.rowMajor_val_four, Shape.rowMajor_val_two]
  have hk : k.val < 1536 := k.isLt
  show ((k.val / 384 * 3 + k.val / 128 % 3) * 64 + k.val / 2 % 64) * 2 + k.val % 2 = 0 * 1536 + k.val
  omega

end Cert.Eq
-- ==== Proof.Eq.Model.lean ====
/-
  What the two programs compute, as functions of real numbers, and the proof that the two functions are one.
-/
module

public import proofs.«01_k».proof.Proof.Eq.RealOps

@[expose] public section

set_option maxRecDepth 16384

noncomputable section

namespace Cert.Eq

open Idealize.ShloMosaic

variable {n m T : ℕ} [NeZero n] [NeZero m] [NeZero T]

/-! ## The pieces both programs share -/

/-- The largest absolute value of a vector. -/
def amax (f : Fin n → ℝ) : ℝ := mx fun k => |f k|
/-- A vector's quantisation scale. -/
def gq (f : Fin n → ℝ) : ℝ := max ep (amax f)
/-- A vector rounded to multiples of its scale over 127. -/
def qa (f : Fin n → ℝ) (k : Fin n) : ℝ := rnd (f k * (127 / gq f)) * (gq f / 127)
/-- A weight's scale: its mean absolute value over `N` entries, plus the guard. -/
def ws (N : ℝ) (w : Fin m → Fin n → ℝ) : ℝ := (∑ a, ∑ b, |w a b|) / N + ep
/-- A weight over its scale, rounded and clipped to -1, 0, 1. -/
def tr (N : ℝ) (w : Fin m → Fin n → ℝ) (a : Fin m) (b : Fin n) : ℝ := min 1 (max (-1) (rnd (w a b / ws N w)))
/-- The quantised weight. -/
def wq (N : ℝ) (w : Fin m → Fin n → ℝ) (a : Fin m) (b : Fin n) : ℝ := tr N w a b * ws N w
/-- A vector through a weight's rows. -/
def lin (f : Fin n → ℝ) (w : Fin m → Fin n → ℝ) (o : Fin m) : ℝ := ∑ k, f k * w o k
/-- One over the root mean square of a row. -/
def rs (x : Fin n → ℝ) : ℝ := (√((∑ k, x k * x k) / 1024 + e5))⁻¹

/-! ## The kernel's pieces -/

/-- The pooled query: the query through the key weight's columns, scaled. -/
def kqv (q : Fin m → ℝ) (w : Fin m → Fin n → ℝ) (j : Fin n) : ℝ := (∑ d, q d * w d j) * (1 / 32)
/-- A row's quantisation scale, after the norm. -/
def gx (x : Fin n → ℝ) : ℝ := max ep (rs x * amax x)
/-- A row's rounded values. -/
def rq (x : Fin n → ℝ) (k : Fin n) : ℝ := rnd (x k * (rs x * (127 / gx x)))
/-- A row's step. -/
def c2 (x : Fin n → ℝ) : ℝ := gx x * 127⁻¹
/-- A row's score, with the step's logarithm added. -/
def hh (kq : Fin n → ℝ) (x : Fin n → ℝ) : ℝ := (∑ k, rq x k * kq k) * c2 x + Real.log (c2 x)
/-- The pooled row: rounded values averaged with the scores' exponentials. -/
def sx (h : Fin T → ℝ) (r : Fin T → Fin n → ℝ) (c : Fin T → ℝ) (k : Fin n) : ℝ :=
  (∑ t, Real.exp (h t - mx h) * r t k) / ∑ t, Real.exp (h t - mx h) * (1 / c t)
/-- The last layer on the unscaled pooled values. -/
def corr (y : Fin n → ℝ) (sv so : ℝ) (w : Fin m → Fin n → ℝ) (o : Fin m) : ℝ :=
  (∑ k, rnd (y k * (sv * 127 / max ep (sv * amax y))) * w o k) * (max ep (sv * amax y) * so * 127⁻¹)

/-- The row the kernel adds to every row of a batch entry. -/
def kerRow (q : Fin n → ℝ) (wk wv wo : Fin n → Fin n → ℝ) (N : ℝ) (X : Fin T → Fin n → ℝ) : Fin n → ℝ :=
  corr (lin (sx (fun t => hh (kqv q (wq N wk)) (X t)) (fun t => rq (X t)) fun t => c2 (X t)) (tr N wv))
    (ws N wv) (ws N wo) (tr N wo)

/-! ## The reference's pieces -/

/-- A normed row. -/
def xn (x : Fin n → ℝ) (k : Fin n) : ℝ := x k * rs x
/-- A row's score. -/
def att (q : Fin n → ℝ) (w : Fin n → Fin n → ℝ) (x : Fin n → ℝ) : ℝ := (∑ o, q o * lin (qa (xn x)) w o) * (1 / 32)
/-- The softmax of the scores. -/
def smax (a : Fin T → ℝ) (t : Fin T) : ℝ := Real.exp (a t - mx a) / ∑ s, Real.exp (a s - mx a)
/-- The pooled value. -/
def summ (a : Fin T → ℝ) (v : Fin T → Fin n → ℝ) (k : Fin n) : ℝ := ∑ t, smax a t * v t k

/-- The row the reference adds to every row of a batch entry. -/
def refRow (q : Fin n → ℝ) (wk wv wo : Fin n → Fin n → ℝ) (N : ℝ) (X : Fin T → Fin n → ℝ) : Fin n → ℝ :=
  lin (qa (summ (fun t => att q (wq N wk) (X t)) fun t => lin (qa (xn (X t))) (wq N wv))) (wq N wo)

/-! ## The two are one -/

omit [NeZero n] in
/-- The mean of squares with its guard is positive. -/
theorem msq_pos (x : Fin n → ℝ) : 0 < (∑ k, x k * x k) / 1024 + e5 :=
  add_pos_of_nonneg_of_pos (div_nonneg (Finset.sum_nonneg fun k _ => mul_self_nonneg (x k)) (by norm_num)) e5_pos

omit [NeZero n] [NeZero m] in
/-- A weight's scale is positive. -/
theorem ws_pos {N : ℝ} (hN : 0 ≤ N) (w : Fin m → Fin n → ℝ) : 0 < ws N w :=
  add_pos_of_nonneg_of_pos (div_nonneg (Finset.sum_nonneg fun a _ => Finset.sum_nonneg fun b _ => abs_nonneg _) hN)
    ep_pos

omit [NeZero n] in
/-- The inverse root mean square is never negative. -/
theorem rs_nonneg (x : Fin n → ℝ) : 0 ≤ rs x := inv_nonneg.2 (Real.sqrt_nonneg _)

/-- The largest value is one of them. -/
theorem mx_mem (f : Fin n → ℝ) : ∃ k, mx f = f k := by
  obtain ⟨k, _, hk⟩ := Finset.exists_mem_eq_sup' (⟨0, Finset.mem_univ 0⟩ : (Finset.univ : Finset (Fin n)).Nonempty) f
  exact ⟨k, hk⟩

/-- Every entry is at most the largest. -/
theorem le_mx (f : Fin n → ℝ) (k : Fin n) : f k ≤ mx f := Finset.le_sup' f (Finset.mem_univ k)

/-- A nonnegative factor comes out of the largest absolute value. -/
theorem amax_smul {c : ℝ} (hc : 0 ≤ c) (f : Fin n → ℝ) : amax (fun k => c * f k) = c * amax f := by
  refine le_antisymm ?_ ?_
  · obtain ⟨k, hk⟩ := mx_mem fun k => |c * f k|
    unfold amax
    rw [hk, abs_mul, abs_of_nonneg hc]
    exact mul_le_mul_of_nonneg_left (le_mx (fun k => |f k|) k) hc
  · obtain ⟨k, hk⟩ := mx_mem fun k => |f k|
    unfold amax
    rw [hk]
    calc c * |f k| = |c * f k| := by rw [abs_mul, abs_of_nonneg hc]
      _ ≤ _ := le_mx (fun k => |c * f k|) k

/-- The kernel's row scale is the scale of the normed row. -/
theorem gx_eq (x : Fin n → ℝ) : gx x = gq (xn x) := by
  unfold gx gq
  rw [← amax_smul (rs_nonneg x)]
  congr 2
  funext k
  exact mul_comm _ _

/-- A quantisation scale is positive. -/
theorem gq_pos (f : Fin n → ℝ) : 0 < gq f := max_ep_pos _
/-- A row's step is positive. -/
theorem c2_pos (x : Fin n → ℝ) : 0 < c2 x := mul_pos (max_ep_pos _) (by norm_num)

/-- A rounded row times its step is the quantised normed row. -/
theorem rq_mul (x : Fin n → ℝ) (k : Fin n) : rq x k * c2 x = qa (xn x) k := by
  unfold rq c2 qa
  rw [gx_eq, xn, mul_assoc (x k), div_eq_mul_inv (gq (xn x))]

/-- The kernel's score is the reference's plus the step's logarithm. -/
theorem hh_eq (q : Fin n → ℝ) (w : Fin n → Fin n → ℝ) (x : Fin n → ℝ) :
    hh (kqv q w) x = att q w x + Real.log (c2 x) := by
  unfold hh att
  congr 1
  rw [Finset.sum_mul]
  have e : ∀ k, rq x k * kqv q w k * c2 x = ∑ d, q d * (qa (xn x) k * w d k) * (1 / 32) := fun k => by
    rw [kqv, mul_right_comm, rq_mul, ← mul_assoc, Finset.mul_sum, Finset.sum_mul]
    exact Finset.sum_congr rfl fun d _ => by ring
  rw [Finset.sum_congr rfl fun k _ => e k, Finset.sum_comm, Finset.sum_mul]
  refine Finset.sum_congr rfl fun d _ => ?_
  rw [lin, Finset.mul_sum, Finset.sum_mul]

/-- The softmax does not see the shift. -/
theorem smax_eq (a : Fin T → ℝ) (t : Fin T) : smax a t = Real.exp (a t) / ∑ s, Real.exp (a s) := by
  unfold smax
  simp only [Real.exp_sub]
  rw [← Finset.sum_div, div_div_div_cancel_right₀ (Real.exp_pos _).ne']

/-- The kernel's pooled row is the softmax average of the quantised rows. -/
theorem sx_eq (a : Fin T → ℝ) (r : Fin T → Fin n → ℝ) (c : Fin T → ℝ) (hc : ∀ t, 0 < c t) (k : Fin n) :
    sx (fun t => a t + Real.log (c t)) r c k = ∑ t, smax a t * (r t k * c t) := by
  unfold sx
  generalize mx (fun t => a t + Real.log (c t)) = M
  have e : ∀ t, Real.exp (a t + Real.log (c t) - M) = Real.exp (a t) * c t / Real.exp M := fun t => by
    rw [Real.exp_sub, Real.exp_add, Real.exp_log (hc t)]
  simp only [e, smax_eq]
  have e1 : ∀ t, Real.exp (a t) * c t / Real.exp M * r t k = Real.exp (a t) * (r t k * c t) / Real.exp M := fun t => by
    ring
  have e2 : ∀ t, Real.exp (a t) * c t / Real.exp M * (1 / c t) = Real.exp (a t) / Real.exp M := fun t => by
    have := (hc t).ne'
    field_simp
  simp only [e1, e2]
  rw [← Finset.sum_div, ← Finset.sum_div, div_div_div_cancel_right₀ (Real.exp_pos _).ne', Finset.sum_div]
  exact Finset.sum_congr rfl fun t _ => by ring

/-- The last layer on the scaled values, with the scale taken inside. -/
theorem corr_eq (y : Fin n → ℝ) {sv : ℝ} (hs : 0 ≤ sv) (N : ℝ) (w : Fin m → Fin n → ℝ) (o : Fin m) :
    corr y sv (ws N w) (tr N w) o = lin (qa fun k => sv * y k) (wq N w) o := by
  unfold corr lin qa
  rw [← amax_smul hs, Finset.sum_mul]
  refine Finset.sum_congr rfl fun k _ => ?_
  have e : y k * (sv * 127 / gq fun k => sv * y k) = sv * y k * (127 / gq fun k => sv * y k) := by ring
  show rnd (y k * (sv * 127 / gq fun k => sv * y k)) * tr N w o k * ((gq fun k => sv * y k) * ws N w * 127⁻¹) = _
  rw [e, wq]
  ring

/-- The kernel's row is the reference's. -/
theorem kerRow_eq (q : Fin n → ℝ) (wk wv wo : Fin n → Fin n → ℝ) {N : ℝ} (hN : 0 ≤ N) (X : Fin T → Fin n → ℝ) :
    kerRow q wk wv wo N X = refRow q wk wv wo N X := by
  funext o
  unfold kerRow refRow
  rw [corr_eq _ (ws_pos hN wv).le]
  congr 2
  funext i
  simp only [hh_eq, lin, summ]
  rw [Finset.sum_congr rfl fun k _ => by
    rw [sx_eq (fun t => att q (wq N wk) (X t)) (fun t => rq (X t)) (fun t => c2 (X t)) fun t => c2_pos (X t)],
    Finset.mul_sum]
  simp only [rq_mul, Finset.mul_sum, Finset.sum_mul]
  rw [Finset.sum_comm]
  refine Finset.sum_congr rfl fun t _ => Finset.sum_congr rfl fun k _ => ?_
  rw [wq]
  ring

/-! ## Rounding and clipping -/

/-- Rounding moves a number to a neighbouring integer. -/
theorem rnd_cases (x : ℝ) : Ideal.roundHalfEven x = ⌊x⌋ ∨ Ideal.roundHalfEven x = ⌊x⌋ + 1 ∧ 1 / 2 ≤ x - ⌊x⌋ := by
  unfold Ideal.roundHalfEven
  dsimp only
  split_ifs with h1 h2 h3
  · exact .inl rfl
  · exact .inr ⟨rfl, h2.le⟩
  · exact .inl rfl
  · exact .inr ⟨rfl, not_lt.1 h1⟩

/-- Rounding does not take a number past an integer bound above. -/
theorem rnd_le {x : ℝ} {z : ℤ} (h : x ≤ z) : rnd x ≤ z := by
  unfold rnd
  rcases rnd_cases x with e | ⟨e, hx⟩ <;> rw [e]
  · exact (Int.floor_le x).trans h
  · have : ⌊x⌋ < z := by
      by_contra hc
      have : (z : ℝ) ≤ ⌊x⌋ := by exact_mod_cast not_lt.1 hc
      linarith
    exact_mod_cast this

/-- Rounding does not take a number past an integer bound below. -/
theorem le_rnd {x : ℝ} {z : ℤ} (h : z ≤ x) : (z : ℝ) ≤ rnd x := by
  unfold rnd
  have hz : z ≤ ⌊x⌋ := Int.le_floor.2 h
  rcases rnd_cases x with e | ⟨e, _⟩ <;> rw [e]
  · exact_mod_cast hz
  · exact_mod_cast hz.trans (by omega)

/-- The clip to `[-128, 127]` does nothing on a vector over its own scale. -/
theorem clip_act (f : Fin n → ℝ) (k : Fin n) :
    min 127 (max (-128) (rnd (f k * (127 / gq f)))) = rnd (f k * (127 / gq f)) := by
  have h : |f k * (127 / gq f)| ≤ 127 := by
    rw [abs_mul, abs_of_pos (div_pos (by norm_num) (gq_pos f)), ← mul_div_assoc, div_le_iff₀ (gq_pos f), mul_comm]
    exact mul_le_mul_of_nonneg_left ((le_mx (fun k => |f k|) k).trans (le_max_right _ _)) (by norm_num)
  obtain ⟨h1, h2⟩ := abs_le.1 h
  have a1 := rnd_le (x := f k * (127 / gq f)) (z := 127) (by exact_mod_cast h2)
  have a2 := le_rnd (x := f k * (127 / gq f)) (z := -127) (by exact_mod_cast h1)
  push_cast at a1 a2
  rw [max_eq_right (by linarith), min_eq_right a1]

omit [NeZero n] in
/-- A sum over an even number of places is the sum over the even ones plus the sum over the odd ones. -/
theorem sum_even_odd (f : Fin 1024 → ℝ) :
    ∑ o, f o = (∑ d : Fin 512, f ⟨2 * d.val, by omega⟩) + ∑ d : Fin 512, f ⟨2 * d.val + 1, by omega⟩ := by
  have key : ∀ (g : ℕ → ℝ) (k : ℕ), ∑ i ∈ Finset.range (2 * k), g i
      = (∑ i ∈ Finset.range k, g (2 * i)) + ∑ i ∈ Finset.range k, g (2 * i + 1) := fun g k => by
    induction k with
    | zero => simp
    | succ k ih =>
      rw [show 2 * (k + 1) = 2 * k + 1 + 1 by ring, Finset.sum_range_succ, Finset.sum_range_succ, ih,
        Finset.sum_range_succ, Finset.sum_range_succ]
      ring
  let g : ℕ → ℝ := fun i => if h : i < 1024 then f ⟨i, h⟩ else 0
  have h0 : ∑ o, f o = ∑ i ∈ Finset.range (2 * 512), g i := by
    rw [← Fin.sum_univ_eq_sum_range]
    exact Finset.sum_congr rfl fun o _ => by
      show f o = if h : o.val < 1024 then f ⟨o.val, h⟩ else 0
      rw [dif_pos o.isLt]
  rw [h0, key, ← Fin.sum_univ_eq_sum_range (fun i => g (2 * i)), ← Fin.sum_univ_eq_sum_range (fun i => g (2 * i + 1))]
  exact congrArg₂ (· + ·) (Finset.sum_congr rfl fun d _ => dif_pos _) (Finset.sum_congr rfl fun d _ => dif_pos _)

end Cert.Eq
-- ==== Proof.Eq.Infinite.lean ====
/-
  Quantising an array that holds an infinity gives what quantising zeros gives: its scale is infinite, so every entry over
  the scale is zero. So every array has a real array it is quantised as.
-/
module

public import proofs.«01_k».proof.Proof.Eq.Model

@[expose] public section

set_option maxRecDepth 16384

noncomputable section

namespace Cert.Eq

open Idealize.ShloMosaic

/-- The absolute value, as the programs take it. -/
abbrev ab (e : EReal) : EReal := FloatOps.absf (F := Ideal) (φ := .f32) e

/-- An absolute value is never negative. -/
theorem ab_nonneg (e : EReal) : 0 ≤ ab e := by
  rcases le_total 0 e with h | h
  · exact le_max_of_le_left h
  · exact le_max_of_le_right (EReal.neg_nonneg.2 h)

/-- A number is real or its absolute value is infinite. -/
theorem real_or_inf (e : EReal) : (∃ r : ℝ, e = (r : EReal)) ∨ ab e = ⊤ := by
  induction e with
  | bot => exact Or.inr (by show max (⊥ : EReal) (-⊥) = ⊤; simp)
  | top => exact Or.inr (by show max (⊤ : EReal) (-⊤) = ⊤; simp)
  | coe r => exact Or.inl ⟨r, rfl⟩

/-- A square is never negative. -/
theorem sq_nonneg' (e : EReal) : 0 ≤ e * e := by
  induction e with
  | bot => simp
  | top => simp
  | coe r => rw [mul_coe]; exact EReal.coe_nonneg.2 (mul_self_nonneg r)

/-- The square of an infinity is infinite. -/
theorem sq_inf {e : EReal} (h : ab e = ⊤) : e * e = ⊤ := by
  induction e with
  | bot => simp
  | top => simp
  | coe r => rw [ab, absf_coe] at h; exact absurd h (EReal.coe_ne_top _)

/-- Anything over infinity is zero. -/
theorem div_top (e : EReal) : Ideal.div e ⊤ = 0 := by
  unfold Ideal.div
  rw [if_neg EReal.top_ne_zero, EReal.inv_top, mul_zero]

/-- Infinity over a positive number is infinite. -/
theorem top_div {c : ℝ} (h : 0 < c) : Ideal.div ⊤ (c : EReal) = ⊤ := by
  unfold Ideal.div
  rw [if_neg (by exact_mod_cast h.ne'), ← EReal.coe_inv, EReal.top_mul_coe_of_pos (inv_pos.2 h)]

/-- Zero rounds to zero. -/
theorem rnd_zero : rnd 0 = 0 := by
  unfold rnd Ideal.roundHalfEven
  norm_num

/-- Zero rounds to zero, in the extended reals. -/
theorem lift_zero : Ideal.liftRound Ideal.roundHalfEven 0 = 0 := by
  rw [← EReal.coe_zero, rnd_coe, rnd_zero]

/-- A sum of nonnegative numbers one of which is infinite is infinite. -/
theorem sum_inf {ι : Type} [Fintype ι] {f : ι → EReal} (h0 : ∀ i, 0 ≤ f i) {i : ι} (hi : f i = ⊤) : ∑ i, f i = ⊤ :=
  top_le_iff.1 (hi ▸ Finset.single_le_sum (f := f) (fun i _ => h0 i) (Finset.mem_univ i))

variable {n m : ℕ} [NeZero n] [NeZero m]

/-- The real vector an array is quantised as: the array itself when it is real, zeros when it holds an infinity. -/
def RepV (X : Fin n → EReal) (x : Fin n → ℝ) : Prop :=
  (∀ k, X k = ((x k : ℝ) : EReal)) ∨ (∃ k, ab (X k) = ⊤) ∧ x = fun _ => 0
/-- The same for a weight. -/
def RepM (W : Fin m → Fin n → EReal) (w : Fin m → Fin n → ℝ) : Prop :=
  (∀ a b, W a b = ((w a b : ℝ) : EReal)) ∨ (∃ a b, ab (W a b) = ⊤) ∧ w = fun _ _ => 0

omit [NeZero n] in
/-- Every array has one. -/
theorem exists_repV (X : Fin n → EReal) : ∃ x, RepV X x := by
  by_cases h : ∃ k, ab (X k) = ⊤
  · exact ⟨_, Or.inr ⟨h, rfl⟩⟩
  · choose x hx using fun k => (real_or_inf (X k)).resolve_right fun e => h ⟨k, e⟩
    exact ⟨x, Or.inl hx⟩

omit [NeZero n] [NeZero m] in
/-- Every weight has one. -/
theorem exists_repM (W : Fin m → Fin n → EReal) : ∃ w, RepM W w := by
  by_cases h : ∃ a b, ab (W a b) = ⊤
  · exact ⟨_, Or.inr ⟨h, rfl⟩⟩
  · choose w hw using fun a b => (real_or_inf (W a b)).resolve_right fun e => h ⟨a, b, e⟩
    exact ⟨w, Or.inl hw⟩

/-! ## Zeros in the model -/

/-- A zero vector is quantised as zeros. -/
theorem qa_zero (k : Fin n) : qa (fun _ : Fin n => (0 : ℝ)) k = 0 := by
  unfold qa
  rw [zero_mul, rnd_zero, zero_mul]

omit [NeZero n] [NeZero m] in
/-- A zero matrix has ternary entries zero. -/
theorem tr_zero (N : ℝ) (a : Fin m) (b : Fin n) : tr N (fun _ _ => (0 : ℝ)) a b = 0 := by
  unfold tr
  rw [zero_div, rnd_zero]
  norm_num

omit [NeZero n] [NeZero m] in
/-- A zero matrix is quantised as zeros. -/
theorem wq_zero (N : ℝ) (a : Fin m) (b : Fin n) : wq N (fun _ _ => (0 : ℝ)) a b = 0 := by
  unfold wq
  rw [tr_zero, zero_mul]

omit [NeZero n] in
/-- A zero row is normed to zeros. -/
theorem xn_zero (k : Fin n) : xn (fun _ : Fin n => (0 : ℝ)) k = 0 := zero_mul _

/-- The largest absolute value of a zero vector is zero. -/
theorem amax_zero : amax (fun _ : Fin n => (0 : ℝ)) = 0 := by
  obtain ⟨k, hk⟩ := mx_mem fun _ : Fin n => |(0 : ℝ)|
  exact hk.trans abs_zero

/-- A zero row's scale is the guard. -/
theorem gx_zero : gx (fun _ : Fin n => (0 : ℝ)) = ep := by
  unfold gx
  rw [amax_zero, mul_zero]
  exact max_eq_left ep_pos.le

/-- A zero row has rounded entries zero. -/
theorem rq_zero (k : Fin n) : rq (fun _ : Fin n => (0 : ℝ)) k = 0 := by
  unfold rq
  rw [zero_mul, rnd_zero]

/-! ## Vectors -/

section Vec

variable {X : Fin n → EReal} {x : Fin n → ℝ}

/-- The largest absolute value, as the programs fold it. -/
abbrev foldAb (X : Fin n → EReal) : EReal :=
  Finset.fold max (Ideal.ofBits .f32 0xFF800000#32) (fun k => ab (X k)) Finset.univ
/-- One over the root mean square, as the programs form it. -/
abbrev rsE (X : Fin n → EReal) : EReal := Ideal.rsqrt (Ideal.div (∑ k, X k * X k) ((1024 : ℝ) : EReal) + ((e5 : ℝ) : EReal))

omit [NeZero n] in
/-- With an infinity in it, a vector has an infinite largest absolute value. -/
theorem fold_inf (h : ∃ k, ab (X k) = ⊤) : foldAb X = ⊤ := by
  obtain ⟨k, hk⟩ := h
  refine top_le_iff.1 ?_
  rw [Finset.le_fold_max]
  exact Or.inr ⟨k, Finset.mem_univ k, hk.ge⟩

/-- The largest absolute value of a real vector is real. -/
theorem fold_real (h : ∀ k, X k = ((x k : ℝ) : EReal)) : foldAb X = ((amax x : ℝ) : EReal) := by
  simp only [foldAb, ab, h, absf_coe, fold_coe]
  rfl

omit [NeZero n] in
/-- With an infinity in it, a row has inverse root mean square zero. -/
theorem rsE_inf (h : ∃ k, ab (X k) = ⊤) : rsE X = 0 := by
  obtain ⟨k, hk⟩ := h
  unfold rsE
  rw [sum_inf (fun k => sq_nonneg' (X k)) (sq_inf hk), top_div (by norm_num), EReal.top_add_coe]
  rfl

omit [NeZero n] in
/-- The inverse root mean square of a real row is real. -/
theorem rsE_real (h : ∀ k, X k = ((x k : ℝ) : EReal)) : rsE X = ((rs x : ℝ) : EReal) := by
  simp only [rsE, h, mul_coe, sum_coe, div_coe (by norm_num : (1024 : ℝ) ≠ 0), add_coe, rsqrt_coe (msq_pos _)]
  rfl

/-- The quantised vector. -/
theorem act_rep (hX : RepV X x) (k : Fin n) :
    Ideal.liftRound Ideal.roundHalfEven (X k * Ideal.div ((127 : ℝ) : EReal) (max ((ep : ℝ) : EReal) (foldAb X)))
      * Ideal.div (max ((ep : ℝ) : EReal) (foldAb X)) ((127 : ℝ) : EReal) = ((qa x k : ℝ) : EReal) := by
  rcases hX with h | ⟨h, rfl⟩
  · simp only [fold_real h, h, max_coe, div_coe (max_ep_ne _), div_coe (by norm_num : (127 : ℝ) ≠ 0), mul_coe, rnd_coe]
    rfl
  · rw [fold_inf h, max_eq_right le_top, div_top, mul_zero, lift_zero, zero_mul, qa_zero, EReal.coe_zero]

/-- The quantised vector, clipped before its scale is put back. -/
theorem act_clip_rep (hX : RepV X x) (k : Fin n) :
    min ((127 : ℝ) : EReal) (max ((-128 : ℝ) : EReal) (Ideal.liftRound Ideal.roundHalfEven
        (X k * Ideal.div ((127 : ℝ) : EReal) (max ((ep : ℝ) : EReal) (foldAb X)))))
      * Ideal.div (max ((ep : ℝ) : EReal) (foldAb X)) ((127 : ℝ) : EReal) = ((qa x k : ℝ) : EReal) := by
  rcases hX with h | ⟨h, rfl⟩
  · have hc := clip_act x k
    unfold gq at hc
    simp only [fold_real h, h, max_coe, div_coe (max_ep_ne _), div_coe (by norm_num : (127 : ℝ) ≠ 0), mul_coe, rnd_coe,
      min_coe, hc]
    rfl
  · rw [fold_inf h, max_eq_right (le_top : ((ep : ℝ) : EReal) ≤ ⊤), div_top, mul_zero, lift_zero, ← EReal.coe_zero,
      max_coe, min_coe, qa_zero, max_eq_right (by norm_num : (-128 : ℝ) ≤ 0), min_eq_right (by norm_num : (0 : ℝ) ≤ 127),
      EReal.coe_zero, zero_mul]

omit [NeZero n] in
/-- A normed row. -/
theorem xn_rep (hX : RepV X x) (k : Fin n) : X k * rsE X = ((xn x k : ℝ) : EReal) := by
  rcases hX with h | ⟨h, rfl⟩
  · rw [rsE_real h, h, mul_coe]
    rfl
  · rw [rsE_inf h, mul_zero, xn_zero, EReal.coe_zero]

/-- A row's scale, after the norm. -/
theorem gx_rep (hX : RepV X x) : max ((ep : ℝ) : EReal) (rsE X * foldAb X) = ((gx x : ℝ) : EReal) := by
  rcases hX with h | ⟨h, rfl⟩
  · rw [rsE_real h, fold_real h, mul_coe, max_coe]
    rfl
  · rw [rsE_inf h, zero_mul, gx_zero]
    exact max_eq_left (EReal.coe_nonneg.2 ep_pos.le)

/-- A row's rounded values. -/
theorem rq_rep (hX : RepV X x) (k : Fin n) :
    Ideal.liftRound Ideal.roundHalfEven (X k * (rsE X * Ideal.div ((127 : ℝ) : EReal) ((gx x : ℝ) : EReal)))
      = ((rq x k : ℝ) : EReal) := by
  rcases hX with h | ⟨h, rfl⟩
  · rw [rsE_real h, h, div_coe (show gx x ≠ 0 from max_ep_ne _), mul_coe, mul_coe, rnd_coe]
    rfl
  · rw [rsE_inf h, zero_mul, mul_zero, lift_zero, rq_zero, EReal.coe_zero]

end Vec

/-! ## Weights -/

section Mat

variable {W : Fin m → Fin n → EReal} {w : Fin m → Fin n → ℝ} {N : ℝ}

/-- A weight's scale, as the programs form it. -/
abbrev wsE (N : ℝ) (W : Fin m → Fin n → EReal) : EReal :=
  Ideal.div (∑ a, ∑ b, ab (W a b)) ((N : ℝ) : EReal) + ((ep : ℝ) : EReal)

omit [NeZero n] [NeZero m] in
/-- The scale of a real matrix is real. -/
theorem ws_real (hN : 0 < N) (h : ∀ a b, W a b = ((w a b : ℝ) : EReal)) : wsE N W = ((ws N w : ℝ) : EReal) := by
  simp only [wsE, ab, h, absf_coe, sum_coe, div_coe hN.ne', add_coe]
  rfl

omit [NeZero n] [NeZero m] in
/-- With an infinity in it, a matrix has an infinite scale. -/
theorem ws_inf (hN : 0 < N) (h : ∃ a b, ab (W a b) = ⊤) : wsE N W = ⊤ := by
  obtain ⟨a, b, h⟩ := h
  unfold wsE
  rw [sum_inf (fun a => Finset.sum_nonneg fun b _ => ab_nonneg (W a b)) (sum_inf (fun b => ab_nonneg (W a b)) h),
    top_div hN, EReal.top_add_coe]

omit [NeZero n] [NeZero m] in
/-- A weight's scale is the model's, or is infinite and the weight is quantised as zeros. -/
theorem ws_rep (hN : 0 < N) (hW : RepM W w) :
    wsE N W = ((ws N w : ℝ) : EReal) ∨ wsE N W = ⊤ ∧ w = fun _ _ => 0 :=
  hW.imp (ws_real hN) fun h => ⟨ws_inf hN h.1, h.2⟩

omit [NeZero n] [NeZero m] in
/-- A weight, rounded and clipped. -/
theorem tr_rep (hN : 0 < N) (hW : RepM W w) (a : Fin m) (b : Fin n) :
    min ((1 : ℝ) : EReal) (max ((-1 : ℝ) : EReal) (Ideal.liftRound Ideal.roundHalfEven (Ideal.div (W a b) (wsE N W))))
      = ((tr N w a b : ℝ) : EReal) := by
  rcases hW with h | ⟨h, rfl⟩
  · rw [ws_real hN h, h, div_coe (ws_pos hN.le w).ne', rnd_coe, max_coe, min_coe]
    rfl
  · rw [ws_inf hN h, div_top, lift_zero, ← EReal.coe_zero, max_coe, min_coe, tr_zero]
    norm_num

omit [NeZero n] [NeZero m] in
/-- The quantised weight. -/
theorem wq_rep (hN : 0 < N) (hW : RepM W w) (a : Fin m) (b : Fin n) :
    min ((1 : ℝ) : EReal) (max ((-1 : ℝ) : EReal) (Ideal.liftRound Ideal.roundHalfEven (Ideal.div (W a b) (wsE N W))))
      * wsE N W = ((wq N w a b : ℝ) : EReal) := by
  rw [tr_rep hN hW]
  rcases ws_rep hN hW with h | ⟨h, rfl⟩
  · rw [h, mul_coe]
    rfl
  · rw [tr_zero, wq_zero, EReal.coe_zero, zero_mul]

end Mat

end Cert.Eq
-- ==== Proof.Eq.KerPrep.lean ====
/-
  The first call's arrays read as the real numbers the model names.
-/
module

public import proofs.«01_k».proof.Proof.Regs
public import proofs.«01_k».proof.Proof.Eq.Infinite

@[expose] public section

set_option maxRecDepth 16384

noncomputable section

namespace Cert.Eq

open Cert.KernelIdeal Cert.KernelIdeal.Gen Idealize.ShloMosaic

variable {W : FVec Ideal S1024x1024 .f32} {w : Fin 1024 → Fin 1024 → ℝ}

/-- The entries of a square weight are so many. -/
theorem sq_pos' : (0 : ℝ) < 1048576 := by norm_num

/-- The quantised query through the quantised query weight. -/
theorem pay4_rep {X : FVec Ideal S1x1536 .f32} {V : FVec Ideal S1024x1536 .f32} {x : Fin 1536 → ℝ}
    {v : Fin 1024 → Fin 1536 → ℝ} (hX : RepV (fun k => X (ix2 0 k)) x) (hV : RepM (fun a b => V (ix2 a b)) v)
    (o : Fin 1024) : k0_pay4 (F := Ideal) X V (ix2 0 o) = ((lin (qa x) (wq 1572864 v) o : ℝ) : EReal) := by
  have hx := act_rep hX
  have hv := wq_rep (by norm_num : (0 : ℝ) < 1572864) hV
  simp only [foldAb, wsE, ab] at hx hv
  pointwise [k0_pay4]
  simp only [bits_127, bits_ep, bits_rect, bits_neg1, one_coe, hx, hv, mul_coe, sum_coe]
  rfl

/-- The value weight, rounded and clipped. -/
theorem pay8_rep (hW : RepM (fun a b => W (ix2 a b)) w) (a b : Fin 1024) :
    k0_pay8 (F := Ideal) W (ix2 a b) = ((tr 1048576 w a b : ℝ) : EReal) := by
  have hw := tr_rep sq_pos' hW
  simp only [wsE, ab] at hw
  pointwise [k0_pay8, k0_pay7]
  simp only [bits_sq, bits_ep, bits_neg1, one_coe, hw]

/-- The output weight, rounded and clipped. -/
theorem pay2_rep (hW : RepM (fun a b => W (ix2 a b)) w) (a b : Fin 1024) :
    k0_pay2 (F := Ideal) W (k0_pay9 W) (ix2 a b) = ((tr 1048576 w a b : ℝ) : EReal) := by
  have hw := tr_rep sq_pos' hW
  simp only [wsE, ab] at hw
  pointwise [k0_pay2, k0_pay1, k0_pay9]
  simp only [bits_sq, bits_ep, bits_neg1, one_coe, hw]

/-- The two scales, laid in two rows. -/
theorem pay3_eq {V : FVec Ideal S1024x1024 .f32} (k : Fin 128) :
    k0_pay3 (F := Ideal) (k0_pay7 W) (k0_pay9 V) (ix2 0 k) = wsE 1048576 (fun a b => W (ix2 a b)) ∧
    k0_pay3 (F := Ideal) (k0_pay7 W) (k0_pay9 V) (ix2 1 k) = wsE 1048576 (fun a b => V (ix2 a b)) := by
  constructor
  · pointwise [k0_pay3, k0_pay7]
    simp only [bits_sq, bits_ep]
  · pointwise [k0_pay3, k0_pay1, k0_pay9]
    simp only [bits_sq, bits_ep]

/-- The pooled query, in every one of its rows. -/
theorem pay6_rep {Q : FVec Ideal S1x1024 .f32} {q : Fin 1024 → ℝ} (hQ : ∀ k, Q (ix2 0 k) = ((q k : ℝ) : EReal))
    (hW : RepM (fun a b => W (ix2 a b)) w) (a : Fin 128) (j : Fin 1024) :
    k0_pay6 (F := Ideal) Q W (k0_pay5 W) (Scalar.ofBits .f32 0x322BCC77#32) (ix2 a j)
      = ((kqv q (wq 1048576 w) j : ℝ) : EReal) := by
  have hw := wq_rep sq_pos' hW
  simp only [wsE, ab] at hw
  pointwise [k0_pay6, k0_pay5]
  simp only [bits_sq, bits_ep, bits_neg1, bits_32nd, one_coe, hw, hQ, mul_coe, sum_coe]
  rfl

end Cert.Eq
-- ==== Proof.Eq.KerRow.lean ====
/-
  The second call's block and row values read as the real numbers the model names.
-/
module

public import proofs.«01_k».proof.Proof.Regs
public import proofs.«01_k».proof.Proof.Eq.Infinite

@[expose] public section

set_option maxRecDepth 16384

noncomputable section

namespace Cert.Eq

open Cert.KernelIdeal Cert.KernelIdeal.Gen Idealize.ShloMosaic

/-- The named constant is the real it names. -/
theorem inv127_val :
    Named.named (F := Ideal) (φ := .f32) Cert.KernelIdeal.κ "inv127" 0x3C010204#32 = (((127 : ℝ)⁻¹ : ℝ) : EReal) := rfl

section Block

variable {X : FVec Ideal S1x1024x1024 .f32} {x : Fin 1024 → Fin 1024 → ℝ}

/-- A block's rows: the quantisation scale. -/
theorem kpay7_rep (hX : ∀ r, RepV (fun k => X (ix3 0 r k)) (x r)) (r : Fin 1024) :
    k1_pay7 (F := Ideal) X (ix2 r 0) = ((gx (x r) : ℝ) : EReal) := by
  have h := gx_rep (hX r)
  simp only [foldAb, rsE, ab] at h
  pointwise [k1_pay7, k1_pay6, k1_pay4]
  simp only [bits_1024, bits_e5, bits_ep, h]

/-- A block's rounded values. -/
theorem kpay8_rep (hX : ∀ r, RepV (fun k => X (ix3 0 r k)) (x r)) (r k : Fin 1024) :
    k1_pay8 (F := Ideal) X (ix2 r k) = ((rq (x r) k : ℝ) : EReal) := by
  have h := rq_rep (hX r)
  simp only [rsE] at h
  pointwise [k1_pay8, k1_pay6, k1_pay4]
  simp only [kpay7_rep hX, bits_1024, bits_e5, bits_127, h]

/-- A block's rounded values, as stored. -/
theorem kpay9_rep (hX : ∀ r, RepV (fun k => X (ix3 0 r k)) (x r)) (r k : Fin 1024) :
    k1_pay9 (F := Ideal) X (ix2 r k) = ((rq (x r) k : ℝ) : EReal) := by
  pointwise [k1_pay9]
  exact kpay8_rep hX r k

/-- A block's rows: the step. -/
theorem kpay10_rep (hX : ∀ r, RepV (fun k => X (ix3 0 r k)) (x r)) (r : Fin 1024) :
    k1_pay10 (F := Ideal) X (ix2 r 0) = ((c2 (x r) : ℝ) : EReal) := by
  pointwise [k1_pay10]
  simp only [kpay7_rep hX, inv127_val, mul_coe]
  rfl

/-- A block's rows: one over the step. -/
theorem kpay11_rep (hX : ∀ r, RepV (fun k => X (ix3 0 r k)) (x r)) (r : Fin 1024) (k : Fin 128) :
    k1_pay11 (F := Ideal) X (ix2 r k) = ((1 / c2 (x r) : ℝ) : EReal) := by
  pointwise [k1_pay11]
  simp only [kpay10_rep hX, one_coe, div_coe (c2_pos _).ne']

/-- A block's rows: the score with the step's logarithm. -/
theorem kpay1_rep (hX : ∀ r, RepV (fun k => X (ix3 0 r k)) (x r)) {K : FVec Ideal S128x1024 .bf16}
    {kq : Fin 1024 → ℝ} (hK : ∀ k, K (ix2 0 k) = ((kq k : ℝ) : EReal)) (r : Fin 1024) :
    k1_pay1 (F := Ideal) (k1_pay8 X) (k1_pay10 X) K (ix2 r 0) = ((hh kq (x r) : ℝ) : EReal) := by
  pointwise [k1_pay1]
  simp only [kpay8_rep hX, kpay10_rep hX, hK, mul_coe, sum_coe, log_coe (c2_pos _), add_coe]
  rfl

end Block

section Row

variable {H : FVec Ideal S8192x1 .f32} {R : FVec Ideal S8192x1152 .bf16} {V : FVec Ideal S1024x1024 .bf16}
  {h : Fin 8192 → ℝ} {r : Fin 8192 → Fin 1024 → ℝ} {c : Fin 8192 → ℝ} {v : Fin 1024 → Fin 1024 → ℝ}

/-- The pooled denominator is positive. -/
theorem den_pos (hc : ∀ t, 0 < c t) (M : ℝ) : 0 < ∑ t, Real.exp (h t - M) * (1 / c t) :=
  Finset.sum_pos (fun t _ => mul_pos (Real.exp_pos _) (one_div_pos.2 (hc t))) ⟨0, Finset.mem_univ 0⟩

/-- The pooled row through the value weight. -/
theorem kpay13_real (hH : ∀ t, H (ix2 t 0) = ((h t : ℝ) : EReal)) (hc : ∀ t, 0 < c t)
    (hR : ∀ (t : Fin 8192) (k : Fin 1024), R (ix2 t ⟨k.val, by omega⟩) = ((r t k : ℝ) : EReal))
    (hC : ∀ t : Fin 8192, R (ix2 t 1024) = ((1 / c t : ℝ) : EReal))
    (hV : ∀ a b, V (ix2 a b) = ((v a b : ℝ) : EReal)) (o : Fin 1024) :
    k1_pay13 (F := Ideal) H R V (ix2 0 o) = ((lin (sx h r c) v o : ℝ) : EReal) := by
  pointwise [k1_pay13]
  simp only [hH, hR, hC, hV, fold_coe, sub_coe, exp_coe, mul_coe, sum_coe, div_coe (den_pos hc _).ne']
  rfl

variable {S0 S1' : FVec Ideal S1x1 .f32} {sv so : ℝ} {O : FVec Ideal S1024x1024 .bf16} {wo : Fin 1024 → Fin 1024 → ℝ}

/-- The pooled row's quantisation scale: an infinite weight scale meets a row of zeros. -/
theorem kpay14_rep {y : Fin 1024 → ℝ} (hY : ∀ o, k1_pay13 (F := Ideal) H R V (ix2 0 o) = ((y o : ℝ) : EReal))
    (hs : S0 (ix2 0 0) = ((sv : ℝ) : EReal) ∨ S0 (ix2 0 0) = ⊤ ∧ y = fun _ => 0) :
    k1_pay14 (F := Ideal) H R S0 V (ix2 0 0) = ((max ep (sv * amax y) : ℝ) : EReal) := by
  have h : k1_pay14 (F := Ideal) H R S0 V (ix2 0 0) = max ((ep : ℝ) : EReal) (S0 (ix2 0 0) * ((amax y : ℝ) : EReal)) := by
    pointwise [k1_pay14, k1_pay12]
    simp only [hY, absf_coe, fold_coe, bits_ep]
    rfl
  rw [h]
  rcases hs with hs | ⟨hs, rfl⟩
  · rw [hs, mul_coe, max_coe]
  · rw [amax_zero, EReal.coe_zero, mul_zero, mul_zero, max_eq_left (EReal.coe_nonneg.2 ep_pos.le), max_eq_left ep_pos.le]

/-- The row added to every row of a batch entry. -/
theorem kcorr_rep {y : Fin 1024 → ℝ} (hY : ∀ o, k1_pay13 (F := Ideal) H R V (ix2 0 o) = ((y o : ℝ) : EReal))
    (hs : S0 (ix2 0 0) = ((sv : ℝ) : EReal) ∨ S0 (ix2 0 0) = ⊤ ∧ y = fun _ => 0)
    (ho : S1' (ix2 0 0) = ((so : ℝ) : EReal) ∨ S1' (ix2 0 0) = ⊤ ∧ wo = fun _ _ => 0)
    (hO : ∀ a b, O (ix2 a b) = ((tr 1048576 wo a b : ℝ) : EReal)) (o : Fin 1024) :
    k1_pay2 (F := Ideal) (k1_pay15 H R S0 V O) (k1_pay16 H R S0 S1' V) (ix2 0 o)
      = ((corr y sv so (tr 1048576 wo) o : ℝ) : EReal) := by
  have hr : ∀ k, Ideal.liftRound Ideal.roundHalfEven (((y k : ℝ) : EReal)
      * Ideal.div (S0 (ix2 0 0) * ((127 : ℝ) : EReal)) ((max ep (sv * amax y) : ℝ) : EReal))
        = ((rnd (y k * (sv * 127 / max ep (sv * amax y))) : ℝ) : EReal) := fun k => by
    rcases hs with hs | ⟨-, rfl⟩
    · rw [hs, mul_coe, div_coe (max_ep_ne _), mul_coe, rnd_coe]
    · rw [EReal.coe_zero, zero_mul, zero_mul, lift_zero, rnd_zero, EReal.coe_zero]
  pointwise [k1_pay2, k1_pay15, k1_pay16, k1_pay12]
  simp only [hY, hO, kpay14_rep hY hs, inv127_val, bits_127, hr, mul_coe, sum_coe]
  rcases ho with ho | ⟨-, rfl⟩
  · rw [ho, mul_coe, mul_coe, mul_coe]
    rfl
  · simp only [corr, tr_zero, mul_zero, Finset.sum_const_zero, EReal.coe_zero, zero_mul]

/-- A block's output: its rows with the one row added. -/
theorem kpay3_rep {X : FVec Ideal S1x1024x1024 .f32} {C : FVec Ideal S1x1024 .f32} {z : Fin 1024 → ℝ}
    (hC : ∀ k, C (ix2 0 k) = ((z k : ℝ) : EReal)) (a k : Fin 1024) :
    k1_pay3 (F := Ideal) (k1_pay5 (F := Ideal) X) C (ix3 0 a k) = X (ix3 0 a k) + ((z k : ℝ) : EReal) := by
  pointwise [k1_pay3, k1_pay5, k1_pay4]
  simp only [hC]

end Row

end Cert.Eq
-- ==== Proof.Eq.KerOut.lean ====
/-
  The kernel's result, as the model's row added to every row.
-/
module

public import proofs.«01_k».proof.Proof.MegaData
public import proofs.«01_k».proof.Proof.Eq.KerRow
public import Idealize.ShloMosaic.Lib.Pointwise

@[expose] public section

set_option maxRecDepth 16384

noncomputable section

namespace Cert.Eq

open Cert.KernelIdeal Cert.KernelIdeal.Gen Cert.KernelIdeal.Mega Idealize.ShloMosaic

/-- The rows of block `l` of batch entry `b`. -/
def rowsOf (X : Fin 4 → Fin 8192 → Fin 1024 → ℝ) (b : Fin 4) (l : Fin 8) (r : Fin 1024) : Fin 1024 → ℝ :=
  X b ⟨1024 * l.val + r.val, by omega⟩

/-- A row is found in its block at its place. -/
theorem rowsOf_at (X : Fin 4 → Fin 8192 → Fin 1024 → ℝ) (b : Fin 4) (t : Fin 8192) :
    rowsOf X b (blkOf t) (rowOf t) = X b t :=
  congrArg (X b) (Fin.ext (Nat.div_add_mod t.val 1024))

variable {I : Ins Ideal} {X : Fin 4 → Fin 8192 → Fin 1024 → ℝ} {kq : Fin 1024 → ℝ} {v wo : Fin 1024 → Fin 1024 → ℝ}
  {sv so : ℝ}

/-- A block's entries. -/
theorem xBlk_at (b : Fin 4) (l : Fin 8) (r k : Fin 1024) :
    xBlk I b l (ix3 0 r k) = I.x (ix3 b ⟨1024 * l.val + r.val, by omega⟩ k) := by
  rw [ix3_eq_valueIdx b]
  rfl

/-- A block's rows. -/
theorem xBlk_rep (hx : ∀ b t, RepV (fun k => I.x (ix3 b t k)) (X b t)) (b : Fin 4) (l : Fin 8) (r : Fin 1024) :
    RepV (fun k => xBlk I b l (ix3 0 r k)) (rowsOf X b l r) := by
  simp only [xBlk_at]
  exact hx b _

/-- The score column. -/
theorem hV_rep (hx : ∀ b t, RepV (fun k => I.x (ix3 b t k)) (X b t))
    (hk : ∀ k, I.kq (ix2 0 k) = ((kq k : ℝ) : EReal)) (b : Fin 4) (t : Fin 8192) :
    hV I b (ix2 t 0) = ((hh kq (X b t) : ℝ) : EReal) := by
  have h := kpay1_rep (xBlk_rep hx b (blkOf t)) hk (rowOf t)
  rw [ix2_eq_valueIdx, rowsOf_at] at h
  exact h

/-- The rounded rows. -/
theorem rqV_rep (hx : ∀ b t, RepV (fun k => I.x (ix3 b t k)) (X b t)) (b : Fin 4) (t : Fin 8192) (k : Fin 1024) :
    rqV I b (ix2 t ⟨k.val, by omega⟩) = ((rq (X b t) k : ℝ) : EReal) := by
  have h := kpay9_rep (xBlk_rep hx b (blkOf t)) (rowOf t) k
  rw [ix2_eq_valueIdx, rowsOf_at] at h
  exact (dif_pos k.isLt).trans h

/-- The weight column of the rounded rows. -/
theorem rqV_one (hx : ∀ b t, RepV (fun k => I.x (ix3 b t k)) (X b t)) (b : Fin 4) (t : Fin 8192) :
    rqV I b (ix2 t 1024) = ((1 / c2 (X b t) : ℝ) : EReal) := by
  have h := kpay11_rep (xBlk_rep hx b (blkOf t)) (rowOf t) 0
  rw [ix2_eq_valueIdx, rowsOf_at] at h
  exact (dif_neg (lt_irrefl 1024)).trans h

/-- The kernel's result: every row with its batch entry's row added. -/
theorem ker_out (hx : ∀ b t, RepV (fun k => I.x (ix3 b t k)) (X b t))
    (hk : ∀ k, I.kq (ix2 0 k) = ((kq k : ℝ) : EReal))
    (hv : ∀ a b, I.wv (ix2 a b) = ((tr 1048576 v a b : ℝ) : EReal))
    (ho : ∀ a b, I.wo (ix2 a b) = ((tr 1048576 wo a b : ℝ) : EReal))
    (hs0 : I.sc (ix2 0 0) = ((sv : ℝ) : EReal) ∨ I.sc (ix2 0 0) = ⊤ ∧ v = fun _ _ => 0)
    (hs1 : I.sc (ix2 1 0) = ((so : ℝ) : EReal) ∨ I.sc (ix2 1 0) = ⊤ ∧ wo = fun _ _ => 0) (b : Fin 4) (t : Fin 8192)
    (o : Fin 1024) :
    outV I (ix3 b t o) = I.x (ix3 b t o) + ((corr (lin (sx (fun t => hh kq (X b t)) (fun t => rq (X b t))
      fun t => c2 (X b t)) (tr 1048576 v)) sv so (tr 1048576 wo) o : ℝ) : EReal) := by
  rw [ix2_eq_valueIdx] at hs0 hs1
  have hc := kcorr_rep (S0 := scV I 0) (S1' := scV I 1)
    (kpay13_real (hV_rep hx hk b) (fun t => c2_pos (X b t)) (rqV_rep hx b) (rqV_one hx b) hv)
    (hs0.imp_right fun h => ⟨h.1, by
      rw [h.2]
      funext o
      unfold lin
      simp only [tr_zero, mul_zero, Finset.sum_const_zero]⟩) hs1 ho
  have h := kpay3_rep (X := xBlk I b (blkOf t)) hc (rowOf t) o
  rw [xBlk_at, show (⟨1024 * (blkOf t).val + (rowOf t).val, by have h1 := (blkOf t).isLt; have h2 := (rowOf t).isLt; omega⟩ : Fin 8192) = t
    from Fin.ext (Nat.div_add_mod t.val 1024), ix3_eq_valueIdx 0] at h
  rw [ix3_eq_valueIdx b t o] at h ⊢
  exact h

end Cert.Eq
-- ==== Proof.Eq.RefQuery.lean ====
/-
  The reference's query stages read as the real numbers the model names.
-/
module

public import proofs.«01_k».proof.Proof.Gen.ReferenceIdeal.Read
public import proofs.«01_k».proof.Proof.Eq.Infinite

@[expose] public section

set_option maxRecDepth 16384

noncomputable section

namespace Cert.Eq

open Cert.ReferenceIdeal Cert.ReferenceIdeal.Gen Cert.ReferenceIdeal.Read Idealize.ShloMosaic

/-! ## The query -/

section Query

variable {x0 x1 : FVec Ideal S4x3x64 .f32} {x3 : FVec Ideal S1024x1536 .f32} {q : Fin 1536 → ℝ}
  {w : Fin 1024 → Fin 1536 → ℝ}

/-- The quantised query. -/
theorem v17_rep (hq : RepV (fun k => val_main_v3 (F := Ideal) x0 x1 (ix1 k)) q) (k : Fin 1536) :
    val_main_v17 (F := Ideal) x0 x1 (ix1 k) = ((qa q k : ℝ) : EReal) := by
  have h := act_clip_rep hq
  simp only [foldAb, ab] at h
  pointwise [val_main_v17, val_main_v13, val_main_call2_v4, val_main_call2_v3, val_main_cst_3, val_main_call2_v2,
    val_main_call2_v1, val_main_call2_v0, id_eq, val_main_cst_2, val_main_v12, val_main_v11, val_main_v10, val_main_v9,
    val_main_v8, val_main_cst_1, val_main_v16, val_main_v15, val_main_v14, val_main_cst_4, val_main_v7,
    val_main_call0_v1, val_main_call0_v0, val_main_cst_0, val_main_v6, val_main_v5, val_main_v4, val_main_cst]
  simp only [bits_127, bits_neg128, bits_ep, h]

/-- The quantised query weight. -/
theorem v27_rep (hw : RepM (fun a b => x3 (ix2 a b)) w) (a : Fin 1024) (b : Fin 1536) :
    val_main_v27 (F := Ideal) x3 (ix2 a b) = ((wq 1572864 w a b : ℝ) : EReal) := by
  have h := wq_rep (by norm_num : (0 : ℝ) < 1572864) hw
  simp only [wsE, ab] at h
  pointwise [val_main_v27, val_main_v25, val_main_call4_v4, val_main_call4_v3, val_main_cst_9, val_main_call4_v2,
    val_main_call4_v1, val_main_call4_v0, id_eq, val_main_cst_8, val_main_v24, val_main_v23, val_main_v22, val_main_v26,
    val_main_v21, val_main_cst_7, val_main_v20, val_main_cst_6, val_main_v19, val_main_cst_5, val_main_v18]
  simp only [bits_rect, bits_ep, bits_neg1, one_coe, h]

/-- The query through its weight. -/
theorem v29_rep (hq : RepV (fun k => val_main_v3 (F := Ideal) x0 x1 (ix1 k)) q) (hw : RepM (fun a b => x3 (ix2 a b)) w) (o : Fin 1024) :
    val_main_v29 (F := Ideal) x0 x1 x3 (ix1 o) = ((lin (qa q) (wq 1572864 w) o : ℝ) : EReal) := by
  pointwise [val_main_v29, val_main_v28]
  simp only [v17_rep hq, v27_rep hw, mul_coe, sum_coe]
  rfl

end Query

end Cert.Eq
-- ==== Proof.Eq.RefRows.lean ====
/-
  The reference's row stages read as the real numbers the model names.
-/
module

public import proofs.«01_k».proof.Proof.Gen.ReferenceIdeal.Read
public import proofs.«01_k».proof.Proof.Eq.Infinite

@[expose] public section

set_option maxRecDepth 16384

noncomputable section

namespace Cert.Eq

open Cert.ReferenceIdeal Cert.ReferenceIdeal.Gen Cert.ReferenceIdeal.Read Idealize.ShloMosaic

/-! ## The rows -/

section Rows

variable {x2 : FVec Ideal S4x8192x1024 .f32} {x7 : FVec Ideal S1024 .f32} {X : Fin 4 → Fin 8192 → Fin 1024 → ℝ}

/-- The normed rows. -/
theorem v44_rep (hx : ∀ b t, RepV (fun k => x2 (ix3 b t k)) (X b t)) (h7 : ∀ k, x7 (ix1 k) = 1) (b : Fin 4)
    (t : Fin 8192) (k : Fin 1024) : val_main_v44 (F := Ideal) x2 x7 (ix3 b t k) = ((xn (X b t) k : ℝ) : EReal) := by
  have h := xn_rep (hx b t)
  simp only [rsE] at h
  pointwise [val_main_v44, val_main_v43, val_main_v42, val_main_v41, val_main_v40, val_main_v39, val_main_v38,
    val_main_v37, val_main_cst_12, val_main_v36, val_main_v35, val_main_cst_11, val_main_v34, val_main_v33,
    val_main_cst_10, val_main_v32]
  simp only [h7, mul_one, bits_1024, bits_e5, h]

variable {Y : Fin 4 → Fin 8192 → Fin 1024 → ℝ}

/-- A normed row's largest absolute value. -/
theorem v47_real (hy : ∀ b t k, val_main_v44 (F := Ideal) x2 x7 (ix3 b t k) = ((Y b t k : ℝ) : EReal)) (b : Fin 4)
    (t : Fin 8192) : val_main_v47 (F := Ideal) x2 x7 (ix3 b t 0) = ((amax (Y b t) : ℝ) : EReal) := by
  pointwise [val_main_v47, val_main_v46, val_main_cst_13, val_main_v45]
  simp only [hy, absf_coe, fold_coe]
  rfl

/-- The scale guard, over the rows. -/
theorem guard_real (b : Fin 4) (t : Fin 8192) :
    val_main_call5_v1 (F := Ideal) (ix3 b t 0) = ((ep : ℝ) : EReal) := by
  pointwise [val_main_call5_v1, val_main_call5_v0, id_eq, val_main_cst_14]
  exact bits_ep

/-- A normed row's quantisation scale. -/
theorem v48_real (hy : ∀ b t k, val_main_v44 (F := Ideal) x2 x7 (ix3 b t k) = ((Y b t k : ℝ) : EReal)) (b : Fin 4)
    (t : Fin 8192) : val_main_v48 (F := Ideal) x2 x7 (ix3 b t 0) = ((gq (Y b t) : ℝ) : EReal) := by
  rw [val_main_v48_apply, guard_real, v47_real hy]
  exact max_coe _ _

/-- The factor a row is scaled by before rounding. -/
theorem v50_real (hy : ∀ b t k, val_main_v44 (F := Ideal) x2 x7 (ix3 b t k) = ((Y b t k : ℝ) : EReal)) (b : Fin 4)
    (t : Fin 8192) : val_main_v50 (F := Ideal) x2 x7 (ix3 b t 0) = ((127 / gq (Y b t) : ℝ) : EReal) := by
  have h : val_main_v49 (F := Ideal) (ix3 b t 0) = ((127 : ℝ) : EReal) := by
    pointwise [val_main_v49, val_main_cst_15]
    exact bits_127
  rw [val_main_v50_apply, h, v48_real hy]
  exact div_coe (gq_pos _).ne'

/-- The rows over their step. -/
theorem v52_real (hy : ∀ b t k, val_main_v44 (F := Ideal) x2 x7 (ix3 b t k) = ((Y b t k : ℝ) : EReal)) (b : Fin 4)
    (t : Fin 8192) (k : Fin 1024) :
    val_main_v52 (F := Ideal) x2 x7 (ix3 b t k) = ((Y b t k * (127 / gq (Y b t)) : ℝ) : EReal) := by
  have h : val_main_v51 (F := Ideal) x2 x7 (ix3 b t k) = ((127 / gq (Y b t) : ℝ) : EReal) := by
    pointwise [val_main_v51]
    exact v50_real hy b t
  rw [val_main_v52_apply, hy, h]
  exact mul_coe _ _

/-- The clip's bounds, over the rows. -/
theorem bounds_real (b : Fin 4) (t : Fin 8192) (k : Fin 1024) :
    val_main_call7_v4 (F := Ideal) (ix3 b t k) = ((127 : ℝ) : EReal) ∧
    val_main_call7_v1 (F := Ideal) (ix3 b t k) = ((-128 : ℝ) : EReal) := by
  constructor
  · pointwise [val_main_call7_v4, val_main_call7_v3, id_eq, val_main_cst_17]
    exact bits_127
  · pointwise [val_main_call7_v1, val_main_call7_v0, id_eq, val_main_cst_16]
    exact bits_neg128

/-- The rows rounded and clipped. -/
theorem v54_real (hy : ∀ b t k, val_main_v44 (F := Ideal) x2 x7 (ix3 b t k) = ((Y b t k : ℝ) : EReal)) (b : Fin 4)
    (t : Fin 8192) (k : Fin 1024) :
    val_main_v54 (F := Ideal) x2 x7 (ix3 b t k) = ((rnd (Y b t k * (127 / gq (Y b t))) : ℝ) : EReal) := by
  show min (val_main_call7_v4 (F := Ideal) (ix3 b t k)) (max (val_main_call7_v1 (F := Ideal) (ix3 b t k))
    (Ideal.liftRound Ideal.roundHalfEven (val_main_v52 (F := Ideal) x2 x7 (ix3 b t k)))) = _
  rw [(bounds_real b t k).1, (bounds_real b t k).2, v52_real hy, rnd_coe, max_coe, min_coe, clip_act]

/-- The rows' step. -/
theorem v57_real (hy : ∀ b t k, val_main_v44 (F := Ideal) x2 x7 (ix3 b t k) = ((Y b t k : ℝ) : EReal)) (b : Fin 4)
    (t : Fin 8192) (k : Fin 1024) :
    val_main_v57 (F := Ideal) x2 x7 (ix3 b t k) = ((gq (Y b t) / 127 : ℝ) : EReal) := by
  pointwise [val_main_v57, val_main_v56, val_main_v55, val_main_cst_18]
  simp only [v48_real hy, bits_127, div_coe (by norm_num : (127 : ℝ) ≠ 0)]

/-- The quantised rows. -/
theorem v58_real (hy : ∀ b t k, val_main_v44 (F := Ideal) x2 x7 (ix3 b t k) = ((Y b t k : ℝ) : EReal)) (b : Fin 4)
    (t : Fin 8192) (k : Fin 1024) : val_main_v58 (F := Ideal) x2 x7 (ix3 b t k) = ((qa (Y b t) k : ℝ) : EReal) := by
  show val_main_v54 (F := Ideal) x2 x7 (ix3 b t k) * val_main_v57 (F := Ideal) x2 x7 (ix3 b t k) = _
  rw [v54_real hy, v57_real hy, mul_coe]
  rfl

variable {W : FVec Ideal S1024x1024 .f32} {w : Fin 1024 → Fin 1024 → ℝ}

/-- The quantised key weight. -/
theorem v68_rep (hw : RepM (fun a b => W (ix2 a b)) w) (a b : Fin 1024) :
    val_main_v68 (F := Ideal) W (ix2 a b) = ((wq 1048576 w a b : ℝ) : EReal) := by
  have h := wq_rep (by norm_num : (0 : ℝ) < 1048576) hw
  simp only [wsE, ab] at h
  pointwise [val_main_v68, val_main_v66, val_main_call9_v4, val_main_call9_v3, val_main_cst_23, val_main_call9_v2,
    val_main_call9_v1, val_main_call9_v0, id_eq, val_main_cst_22, val_main_v65, val_main_v64, val_main_v63, val_main_v67,
    val_main_v62, val_main_cst_21, val_main_v61, val_main_cst_20, val_main_v60, val_main_cst_19, val_main_v59]
  simp only [bits_sq, bits_ep, bits_neg1, one_coe, h]

/-- The output weight is quantised as the key weight is. -/
theorem v140_eq : val_main_v140 (F := Ideal) W = val_main_v69 W := rfl

/-- The quantised key weight, turned. -/
theorem v69_rep (hw : RepM (fun a b => W (ix2 a b)) w) (a b : Fin 1024) :
    val_main_v69 (F := Ideal) W (ix2 a b) = ((wq 1048576 w b a : ℝ) : EReal) := by
  pointwise [val_main_v69]
  exact v68_rep hw b a

/-- The keys. -/
theorem v70_rep (hy : ∀ b t k, val_main_v44 (F := Ideal) x2 x7 (ix3 b t k) = ((Y b t k : ℝ) : EReal))
    (hw : RepM (fun a b => W (ix2 a b)) w) (b : Fin 4) (t : Fin 8192) (o : Fin 1024) :
    val_main_v70 (F := Ideal) x2 W x7 (ix3 b t o) = ((lin (qa (Y b t)) (wq 1048576 w) o : ℝ) : EReal) := by
  pointwise [val_main_v70]
  simp only [v58_real hy, v69_rep hw, mul_coe, sum_coe]
  rfl

/-- The values are formed as the keys are, from the value weight. -/
theorem v96_eq : val_main_v96 (F := Ideal) x2 W x7 = val_main_v70 x2 W x7 := rfl

end Rows

end Cert.Eq
-- ==== Proof.Eq.RefPool.lean ====
/-
  The reference's pooling stages read as the real numbers the model names.
-/
module

public import proofs.«01_k».proof.Proof.Gen.ReferenceIdeal.Read
public import proofs.«01_k».proof.Proof.Eq.RefRows

@[expose] public section

set_option maxRecDepth 16384

noncomputable section

namespace Cert.Eq

open Cert.ReferenceIdeal Cert.ReferenceIdeal.Gen Cert.ReferenceIdeal.Read Idealize.ShloMosaic

/-! ## The scores, the pooled value and the result -/

section Pool

variable {x0 x1 : FVec Ideal S4x3x64 .f32} {x2 : FVec Ideal S4x8192x1024 .f32} {x3 : FVec Ideal S1024x1536 .f32}
  {x4 x5 x6 : FVec Ideal S1024x1024 .f32} {x7 : FVec Ideal S1024 .f32}
  {q : Fin 1024 → ℝ} {K : Fin 4 → Fin 8192 → Fin 1024 → ℝ}

/-- The scores. -/
theorem v103_real (hq : ∀ o, val_main_v29 (F := Ideal) x0 x1 x3 (ix1 o) = ((q o : ℝ) : EReal))
    (hk : ∀ b t o, val_main_v70 (F := Ideal) x2 x4 x7 (ix3 b t o) = ((K b t o : ℝ) : EReal)) (b : Fin 4)
    (t : Fin 8192) :
    val_main_v103 (F := Ideal) x0 x1 x2 x3 x4 x7 (ix2 b t) = (((∑ o, q o * K b t o) * (1 / 32) : ℝ) : EReal) := by
  rw [sum_even_odd]
  pointwise [val_main_v103, val_main_v102, val_main_cst_35, val_main_v101, val_main_v100, val_main_v99, val_main_v98,
    val_main_v97, val_main_v31, val_main_v30]
  simp only [hq, hk, bits_32nd, mul_coe, sum_coe, add_coe]
  exact congrArg (fun z : ℝ => ((z * (1 / 32) : ℝ) : EReal)) (congrArg _ (Finset.sum_congr rfl fun d _ => by
    rw [show (⟨1 + 2 * d.val, by omega⟩ : Fin 1024) = ⟨2 * d.val + 1, by omega⟩ from Fin.ext (Nat.add_comm _ _)]))

variable {A : Fin 4 → Fin 8192 → ℝ}

/-- The softmax of the scores. -/
theorem v114_real (ha : ∀ b t, val_main_v103 (F := Ideal) x0 x1 x2 x3 x4 x7 (ix2 b t) = ((A b t : ℝ) : EReal))
    (b : Fin 4) (t : Fin 8192) :
    val_main_v114 (F := Ideal) x0 x1 x2 x3 x4 x7 (ix2 b t) = ((smax (A b) t : ℝ) : EReal) := by
  have hs : (∑ s, Real.exp (A b s - mx (A b))) ≠ 0 :=
    (Finset.sum_pos (fun s _ => Real.exp_pos _) ⟨0, Finset.mem_univ 0⟩).ne'
  pointwise [val_main_v114, val_main_v113, val_main_v112, val_main_v111, val_main_cst_38, val_main_v110,
    val_main_v109, val_main_v108, val_main_v107, val_main_v106, val_main_v105, val_main_cst_37, val_main_v104,
    val_main_cst_36]
  simp only [ha, fold_coe, max_ninf, sub_coe, exp_coe, sum_coe, div_coe hs]
  rfl

variable {P : Fin 4 → Fin 8192 → ℝ} {V : Fin 4 → Fin 8192 → Fin 1024 → ℝ}

/-- The pooled value. -/
theorem v115_real (hp : ∀ b t, val_main_v114 (F := Ideal) x0 x1 x2 x3 x4 x7 (ix2 b t) = ((P b t : ℝ) : EReal))
    (hv : ∀ b t o, val_main_v96 (F := Ideal) x2 x5 x7 (ix3 b t o) = ((V b t o : ℝ) : EReal)) (b : Fin 4)
    (k : Fin 1024) :
    val_main_v115 (F := Ideal) x0 x1 x2 x3 x4 x5 x7 (ix2 b k) = ((∑ t, P b t * V b t k : ℝ) : EReal) := by
  pointwise [val_main_v115]
  simp only [hp, hv, mul_coe, sum_coe]

variable {s : Fin 4 → Fin 1024 → ℝ} {w : Fin 1024 → Fin 1024 → ℝ}

/-- The pooled value's quantisation scale. -/
theorem v119_real (hs : ∀ b k, val_main_v115 (F := Ideal) x0 x1 x2 x3 x4 x5 x7 (ix2 b k) = ((s b k : ℝ) : EReal))
    (b : Fin 4) : val_main_v119 (F := Ideal) x0 x1 x2 x3 x4 x5 x7 (ix2 b 0) = ((gq (s b) : ℝ) : EReal) := by
  pointwise [val_main_v119, val_main_call15_v1, val_main_call15_v0, id_eq, val_main_cst_40, val_main_v118, val_main_v117,
    val_main_cst_39, val_main_v116]
  simp only [hs, absf_coe, fold_coe, bits_ep, max_coe]
  rfl

/-- The pooled value, quantised. -/
theorem v129_real (hs : ∀ b k, val_main_v115 (F := Ideal) x0 x1 x2 x3 x4 x5 x7 (ix2 b k) = ((s b k : ℝ) : EReal))
    (b : Fin 4) (k : Fin 1024) :
    val_main_v129 (F := Ideal) x0 x1 x2 x3 x4 x5 x7 (ix2 b k) = ((qa (s b) k : ℝ) : EReal) := by
  pointwise [val_main_v129, val_main_v125, val_main_call17_v4, val_main_call17_v3, val_main_cst_43, val_main_call17_v2,
    val_main_call17_v1, val_main_call17_v0, id_eq, val_main_cst_42, val_main_v124, val_main_v123, val_main_v122, val_main_v121,
    val_main_v120, val_main_cst_41, val_main_v128, val_main_v127, val_main_v126, val_main_cst_44]
  simp only [hs, v119_real hs, bits_127, bits_neg128, div_coe (gq_pos _).ne', div_coe (by norm_num : (127 : ℝ) ≠ 0),
    mul_coe, rnd_coe, max_coe, min_coe, clip_act]
  rfl

/-- The row added to every row of a batch entry. -/
theorem v141_rep (hs : ∀ b k, val_main_v115 (F := Ideal) x0 x1 x2 x3 x4 x5 x7 (ix2 b k) = ((s b k : ℝ) : EReal))
    (hw : RepM (fun a b => x6 (ix2 a b)) w) (b : Fin 4) (o : Fin 1024) :
    val_main_v141 (F := Ideal) x0 x1 x2 x3 x4 x5 x6 x7 (ix2 b o) = ((lin (qa (s b)) (wq 1048576 w) o : ℝ) : EReal) := by
  pointwise [val_main_v141]
  simp only [v129_real hs, v140_eq, v69_rep hw, mul_coe, sum_coe]
  rfl

/-- The result: every row with its batch entry's row added. -/
theorem v144_eq {z : Fin 4 → Fin 1024 → ℝ}
    (hz : ∀ b o, val_main_v141 (F := Ideal) x0 x1 x2 x3 x4 x5 x6 x7 (ix2 b o) = ((z b o : ℝ) : EReal)) (b : Fin 4)
    (t : Fin 8192) (o : Fin 1024) :
    val_main_v144 (F := Ideal) x0 x1 x2 x3 x4 x5 x6 x7 (ix3 b t o) = x2 (ix3 b t o) + ((z b o : ℝ) : EReal) := by
  pointwise [val_main_v144, val_main_v143, val_main_v142]
  simp only [hz]

end Pool

end Cert.Eq
-- ==== Proof.Eq.RefOut.lean ====
/-
  The reference's result, as the model's row added to every row.
-/
module

public import proofs.«01_k».proof.Proof.Eq.RefQuery
public import proofs.«01_k».proof.Proof.Eq.RefPool

@[expose] public section

set_option maxRecDepth 16384

noncomputable section

namespace Cert.Eq

open Cert.ReferenceIdeal Cert.ReferenceIdeal.Gen Cert.ReferenceIdeal.Read Idealize.ShloMosaic

variable {x0 x1 : FVec Ideal S4x3x64 .f32} {x2 : FVec Ideal S4x8192x1024 .f32} {x3 : FVec Ideal S1024x1536 .f32}
  {x4 x5 x6 : FVec Ideal S1024x1024 .f32} {x7 : FVec Ideal S1024 .f32} {q : Fin 1536 → ℝ}
  {X : Fin 4 → Fin 8192 → Fin 1024 → ℝ} {w3 : Fin 1024 → Fin 1536 → ℝ} {w4 w5 w6 : Fin 1024 → Fin 1024 → ℝ}

/-- The reference's result: every row with its batch entry's row added. -/
theorem ref_out (hq : RepV (fun k => val_main_v3 (F := Ideal) x0 x1 (ix1 k)) q)
    (hx : ∀ b t, RepV (fun k => x2 (ix3 b t k)) (X b t)) (h3 : RepM (fun a b => x3 (ix2 a b)) w3)
    (h4 : RepM (fun a b => x4 (ix2 a b)) w4) (h5 : RepM (fun a b => x5 (ix2 a b)) w5)
    (h6 : RepM (fun a b => x6 (ix2 a b)) w6) (h7 : ∀ k, x7 (ix1 k) = 1) (b : Fin 4) (t : Fin 8192) (o : Fin 1024) :
    val_main_v144 (F := Ideal) x0 x1 x2 x3 x4 x5 x6 x7 (ix3 b t o)
      = x2 (ix3 b t o) + ((refRow (lin (qa q) (wq 1572864 w3)) w4 w5 w6 1048576 (X b) o : ℝ) : EReal) := by
  have hv : ∀ b t o, val_main_v96 (F := Ideal) x2 x5 x7 (ix3 b t o)
      = ((lin (qa (xn (X b t))) (wq 1048576 w5) o : ℝ) : EReal) := fun b t o => by
    rw [v96_eq]
    exact v70_rep (v44_rep hx h7) h5 b t o
  exact v144_eq (v141_rep (v115_real (v114_real (v103_real (v29_rep hq h3) (v70_rep (v44_rep hx h7) h4))) hv) h6) b t o

end Cert.Eq
-- ==== Proof.Eq.Value.lean ====
/-
  The two programs' results are equal, and the claim that says so of their runs.
-/
module

public import proofs.«01_k».proof.Defs
public import proofs.«01_k».proof.Proof.Gen.Pre_unit_norm
public import proofs.«01_k».proof.Proof.Gen.ReferenceIdeal.Run
public import proofs.«01_k».proof.Proof.Eq.Pre
public import proofs.«01_k».proof.Proof.Eq.Query
public import proofs.«01_k».proof.Proof.Eq.KerPrep
public import proofs.«01_k».proof.Proof.Eq.KerOut
public import proofs.«01_k».proof.Proof.Eq.RefOut

@[expose] public section

set_option maxRecDepth 16384

noncomputable section

namespace Cert.Eq

open Idealize.ShloMosaic Idealize.ShloMosaic.TcCoe Idealize.SL.Sem
open Cert.KernelIdeal Cert.KernelIdeal.Gen Cert.KernelIdeal.Whole Cert.ReferenceIdeal.Read

variable (m : (ℓ : Loc nD τ sig) → Buf (Elt Ideal) ℓ) (c : Dev nD)

/-- What the kernel computes is what the reference computes. -/
theorem value_eq [Cert.Pre_unit_norm.Facts]
    (h : Cert.Pre_unit_norm.fn (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) = fun _ => 1#1) :
    val_main_v144 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) = Mega.outV (insOf m c) := by
  obtain ⟨q, hq⟩ := exists_repV fun k : Fin 1536 => val_main_v3 (F := Ideal) (m ((c : Thread nD τ).loc main_arg0))
    (m ((c : Thread nD τ).loc main_arg1)) (ix1 k)
  choose X hX using fun (b : Fin 4) (t : Fin 8192) =>
    exists_repV fun k : Fin 1024 => (m ((c : Thread nD τ).loc main_arg2) : FVec Ideal S4x8192x1024 .f32) (ix3 b t k)
  obtain ⟨w3, h3⟩ := exists_repM fun (a : Fin 1024) (b : Fin 1536) =>
    (m ((c : Thread nD τ).loc main_arg3) : FVec Ideal S1024x1536 .f32) (ix2 a b)
  have hw (W : FVec Ideal S1024x1024 .f32) : ∃ w, RepM (fun a b => W (ix2 a b)) w := exists_repM _
  obtain ⟨w4, h4⟩ := hw (m ((c : Thread nD τ).loc main_arg4))
  obtain ⟨w5, h5⟩ := hw (m ((c : Thread nD τ).loc main_arg5))
  obtain ⟨w6, h6⟩ := hw (m ((c : Thread nD τ).loc main_arg6))
  have hq' : RepV (fun k => Va m c main_v3 (ix2 0 k)) q := by
    rw [show (fun k => Va m c main_v3 (ix2 0 k)) = _ from funext (query_eq m c)]
    exact hq
  have hs := pay3_eq (W := m ((c : Thread nD τ).loc main_arg5)) (V := m ((c : Thread nD τ).loc main_arg6)) 0
  have hker := ker_out (I := insOf m c) hX (pay6_rep (pay4_rep hq' h3) h4 0) (pay8_rep h5) (pay2_rep h6)
    ((ws_rep sq_pos' h5).imp hs.1.trans fun e => ⟨hs.1.trans e.1, e.2⟩)
    ((ws_rep sq_pos' h6).imp hs.2.trans fun e => ⟨hs.2.trans e.1, e.2⟩)
  have href := ref_out hq hX h3 h4 h5 h6 fun k => pre_reads h (ix1 k)
  funext y
  obtain ⟨b, t, o, rfl⟩ : ∃ b t o, y = ix3 b t o := ⟨y 0, y 1, y 2, eq_ix3 y⟩
  refine (href b t o).trans (Eq.trans ?_ (hker b t o).symm)
  rw [← kerRow_eq _ _ _ _ (by norm_num)]
  rfl

/-- The claim: both programs run to the same result and leave their arguments as they were. -/
theorem algebraic : Cert.algebraic_KernelIdeal_ReferenceIdeal_pre_unit_norm := by
  intro m g m' g' hpre hargs
  refine ⟨fun c => Mega.outV (insOf m c), (run_value m g).mono fun r h => h.1, (Cert.ReferenceIdeal.Value.run m' g').mono fun r h c => ?_⟩
  obtain ⟨e0, e1, e2, e3, e4, e5, e6, e7⟩ := hargs c
  refine ⟨(h c).1.trans ((val_main_v144_eq _).trans ?_), (h c).2⟩
  refine Eq.trans ?_ (value_eq m c (hpre c))
  rw [← e0, ← e1, ← e2, ← e3, ← e4, ← e5, ← e6, ← e7]

end Cert.Eq
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Regs
public import proofs.«01_k».proof.Proof.Bit.Regs
public import proofs.«01_k».proof.Proof.Frames
public import proofs.«01_k».proof.Proof.Eq.Value
public import proofs.«01_k».proof.Proof.Gen.Pre_unit_norm
public import Idealize.ShloMosaic.Adequacy
public import Idealize.ShloMosaic.Init

@[expose] public section

noncomputable section

namespace Cert.Proof

open Idealize.ShloMosaic Idealize.SL.Sem Cert.Kernel

/-- The seven parts of the claim. -/
theorem claim : Cert.Claim := ⟨Cert.Kernel.Gen.facts, Cert.KernelIdeal.Gen.facts, Cert.ReferenceIdeal.Gen.facts,
  Cert.Pre_unit_norm.Gen.facts, Cert.Frames.kernel, Cert.Frames.ideal, fun m ρ _ => Cert.Frames.ideal m ρ trivial,
  Cert.Frames.reference, fun m ρ _ => Cert.Frames.reference m ρ trivial, Cert.Frames.preserves, Cert.Eq.algebraic⟩

end Cert.Proof

end
